-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x640 : Shape := ⟨2, ![4096, 640]⟩
abbrev S4096x768 : Shape := ⟨2, ![4096, 768]⟩
abbrev S3584x640 : Shape := ⟨2, ![3584, 640]⟩
abbrev S3584x768 : Shape := ⟨2, ![3584, 768]⟩
abbrev S3x3x4 : Shape := ⟨3, ![3, 3, 4]⟩
abbrev S_ : Shape := ⟨0, ![]⟩
abbrev S512x512 : Shape := ⟨2, ![512, 512]⟩
abbrev S512x768 : Shape := ⟨2, ![512, 768]⟩
abbrev S1x1x1 : Shape := ⟨3, ![1, 1, 1]⟩
abbrev S512x640 : Shape := ⟨2, ![512, 640]⟩
abbrev S128x640 : Shape := ⟨2, ![128, 640]⟩
abbrev S128x768 : Shape := ⟨2, ![128, 768]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .i8⟩
  | .hbm, ⟨1, _⟩ => ⟨S512x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S512x2048, .i8⟩
  | .local _ .vmem, ⟨2, _⟩ => ⟨S512x2048, .f32⟩
  | .local _ .vmem, ⟨3, _⟩ => ⟨S4096x640, .bf16⟩
  | .local _ .vmem, ⟨4, _⟩ => ⟨S4096x640, .bf16⟩
  | .local _ .vmem, ⟨5, _⟩ => ⟨S4096x768, .bf16⟩
  | .local _ .vmem, ⟨6, _⟩ => ⟨S3584x640, .bf16⟩
  | .local _ .vmem, ⟨7, _⟩ => ⟨S3584x640, .bf16⟩
  | .local _ .vmem, ⟨8, _⟩ => ⟨S3584x768, .bf16⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_50 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_49 : BitVec 32 := 1#32
  let v100 : BitVec 32 := Scalar.muli v66 c1_i32_49
  let v101 : BitVec 32 := Scalar.addi c0_i32_50 v100
  v101.toNat
def k0_dev2 (d0 : Dev nD) : Nat :=
  let c0_i32_53 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_52 : BitVec 32 := 1#32
  let v102 : BitVec 32 := Scalar.muli v82 c1_i32_52
  let v103 : BitVec 32 := Scalar.addi c0_i32_53 v102
  v103.toNat
def k0_dev3 (d0 : Dev nD) : Nat :=
  let c0_i32_56 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_55 : BitVec 32 := 1#32
  let v104 : BitVec 32 := Scalar.muli v98 c1_i32_55
  let v105 : BitVec 32 := Scalar.addi c0_i32_56 v104
  v105.toNat
def k0_off1 (d0 : Dev nD) (c0_i32_59 : BitVec 32) (c0_i32_60 : BitVec 32) : Fin 2 → Nat :=
  let c4_i32_58 : BitVec 32 := 4#32
  let c1_i32_57 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.subi c1_i32_57 v19
  let v107 : BitVec 32 := Scalar.muli c4_i32_58 v106
  let v108 : BitVec 32 := Scalar.addi v107 c0_i32_59
  let v109 : BitVec 32 := Scalar.addi v108 c0_i32_60
  let c512_i32 : BitVec 32 := 512#32
  let v110 : BitVec 32 := Scalar.muli v109 c512_i32
  let v111 : Index := Scalar.indexCast v110
  let c0 : Index := 0#32
  ![v111.toNat, 0]
def k0_off2 (d0 : Dev nD) (c0_i32_63 : BitVec 32) : Fin 2 → Nat :=
  let c4_i32_62 : BitVec 32 := 4#32
  let c1_i32_57 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.subi c1_i32_57 v19
  let v118 : BitVec 32 := Scalar.muli c4_i32_62 v106
  let v119 : BitVec 32 := Scalar.addi v118 c0_i32_63
  let c512_i32_64 : BitVec 32 := 512#32
  let v120 : BitVec 32 := Scalar.muli v119 c512_i32_64
  let v121 : Index := Scalar.indexCast v120
  let c0_65 : Index := 0#32
  ![v121.toNat, 0]
def k0_off3 (d0 : Dev nD) (c0_i32_107 : BitVec 32) : Fin 2 → Nat :=
  let c1_i32_105 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v182 : BitVec 32 := Scalar.subi c1_i32_105 v19
  let c2048_i32 : BitVec 32 := 2048#32
  let v183 : BitVec 32 := Scalar.muli v182 c2048_i32
  let v185 : BitVec 32 := Scalar.addi v183 c0_i32_107
  let c0_i32_118 : BitVec 32 := 0#32
  ![v185.toNat, 0]
def k0_dev4 (d0 : Dev nD) : Nat :=
  let c0_i32_115 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_114 : BitVec 32 := 1#32
  let v186 : BitVec 32 := Scalar.muli v98 c1_i32_114
  let v187 : BitVec 32 := Scalar.addi c0_i32_115 v186
  v187.toNat
def k0_dev5 (d0 : Dev nD) : Nat :=
  let c0_i32_127 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_126 : BitVec 32 := 1#32
  let v195 : BitVec 32 := Scalar.muli v98 c1_i32_126
  let v196 : BitVec 32 := Scalar.addi c0_i32_127 v195
  v196.toNat
def k0_dev6 (d0 : Dev nD) : Nat :=
  let c0_i32_138 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_137 : BitVec 32 := 1#32
  let v204 : BitVec 32 := Scalar.muli v98 c1_i32_137
  let v205 : BitVec 32 := Scalar.addi c0_i32_138 v204
  v205.toNat
def k0_dev7 (d0 : Dev nD) : Nat :=
  let c0_i32_149 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_148 : BitVec 32 := 1#32
  let v213 : BitVec 32 := Scalar.muli v98 c1_i32_148
  let v214 : BitVec 32 := Scalar.addi c0_i32_149 v213
  v214.toNat
def k0_off4 (d0 : Dev nD) (c0_i32_161 : BitVec 32) (c0_i32_154 : BitVec 32) : Fin 2 → Nat :=
  let c1_i32_153 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v221 : BitVec 32 := Scalar.subi c1_i32_153 v50
  let v222 : BitVec 32 := Scalar.addi v221 c0_i32_154
  let c2_i32_155 : BitVec 32 := 2#32
  let c0_i32_156 : BitVec 32 := 0#32
  let v223 : BitVec 1 := Scalar.cmpi .eq c2_i32_155 c0_i32_156
  let c1_i32_157 : BitVec 32 := 1#32
  let v224 : BitVec 32 := Scalar.select v223 c1_i32_157 c2_i32_155
  let v225 : BitVec 32 := Scalar.remsi v222 v224
  let c0_i32_159 : BitVec 32 := 0#32
  let v227 : BitVec 1 := Scalar.cmpi .slt v225 c0_i32_159
  let c0_i32_160 : BitVec 32 := 0#32
  let v228 : BitVec 1 := Scalar.cmpi .slt v224 c0_i32_160
  let v229 : BitVec 1 := Scalar.xori v227 v228
  let c0_i32_158 : BitVec 32 := 0#32
  let v226 : BitVec 1 := Scalar.cmpi .ne v225 c0_i32_158
  let v230 : BitVec 1 := Scalar.andi v229 v226
  let v231 : BitVec 32 := Scalar.addi v225 v224
  let v232 : BitVec 32 := Scalar.select v230 v231 v225
  let v233 : BitVec 32 := Scalar.addi c0_i32_161 v232
  let c512_i32_162 : BitVec 32 := 512#32
  let v234 : BitVec 32 := Scalar.muli v233 c512_i32_162
  let v235 : Index := Scalar.indexCast v234
  let c0_163 : Index := 0#32
  ![v235.toNat, 0]
def k0_off4_at (r : Fin 4) : BitVec 32 × BitVec 32 :=
  if r.val < 2 then
    if r.val < 1 then
      (0#32, 0#32)
    else
      (4#32, 0#32)
  else
    if r.val < 3 then
      (2#32, 1#32)
    else
      (6#32, 1#32)
def k0_off5 (d0 : Dev nD) (c0_i32_168 : BitVec 32) : Fin 2 → Nat :=
  let c4_i32_167 : BitVec 32 := 4#32
  let c1_i32_153 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v221 : BitVec 32 := Scalar.subi c1_i32_153 v50
  let v242 : BitVec 32 := Scalar.muli c4_i32_167 v221
  let v243 : BitVec 32 := Scalar.addi v242 c0_i32_168
  let c512_i32_169 : BitVec 32 := 512#32
  let v244 : BitVec 32 := Scalar.muli v243 c512_i32_169
  let v245 : Index := Scalar.indexCast v244
  let c0_170 : Index := 0#32
  ![v245.toNat, 0]
def k0_off6 (d0 : Dev nD) (c0_i32_227 : BitVec 32) : Fin 2 → Nat :=
  let c1_i32_224 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v333 : BitVec 32 := Scalar.subi c1_i32_224 v50
  let c2048_i32_225 : BitVec 32 := 2048#32
  let v334 : BitVec 32 := Scalar.muli v333 c2048_i32_225
  let v336 : BitVec 32 := Scalar.addi v334 c0_i32_227
  let c0_i32_238 : BitVec 32 := 0#32
  ![v336.toNat, 0]
def k0_dev8 (d0 : Dev nD) : Nat :=
  let c0_i32_235 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_234 : BitVec 32 := 1#32
  let v337 : BitVec 32 := Scalar.muli v66 c1_i32_234
  let v338 : BitVec 32 := Scalar.addi c0_i32_235 v337
  v338.toNat
def k0_dev9 (d0 : Dev nD) : Nat :=
  let c0_i32_247 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_246 : BitVec 32 := 1#32
  let v346 : BitVec 32 := Scalar.muli v66 c1_i32_246
  let v347 : BitVec 32 := Scalar.addi c0_i32_247 v346
  v347.toNat
def k0_dev10 (d0 : Dev nD) : Nat :=
  let c0_i32_259 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_258 : BitVec 32 := 1#32
  let v355 : BitVec 32 := Scalar.muli v66 c1_i32_258
  let v356 : BitVec 32 := Scalar.addi c0_i32_259 v355
  v356.toNat
def k0_dev11 (d0 : Dev nD) : Nat :=
  let c0_i32_271 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_270 : BitVec 32 := 1#32
  let v364 : BitVec 32 := Scalar.muli v66 c1_i32_270
  let v365 : BitVec 32 := Scalar.addi c0_i32_271 v364
  v365.toNat
def k0_off7 (d0 : Dev nD) (c0_i32_277 : BitVec 32) (c0_i32_278 : BitVec 32) : Fin 2 → Nat :=
  let c2_i32_276 : BitVec 32 := 2#32
  let c1_i32_275 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v372 : BitVec 32 := Scalar.subi c1_i32_275 v46
  let v373 : BitVec 32 := Scalar.muli c2_i32_276 v372
  let v374 : BitVec 32 := Scalar.addi c0_i32_277 v373
  let v375 : BitVec 32 := Scalar.addi c0_i32_278 v372
  let c2_i32_279 : BitVec 32 := 2#32
  let c0_i32_280 : BitVec 32 := 0#32
  let v376 : BitVec 1 := Scalar.cmpi .eq c2_i32_279 c0_i32_280
  let c1_i32_281 : BitVec 32 := 1#32
  let v377 : BitVec 32 := Scalar.select v376 c1_i32_281 c2_i32_279
  let v378 : BitVec 32 := Scalar.remsi v375 v377
  let c0_i32_283 : BitVec 32 := 0#32
  let v380 : BitVec 1 := Scalar.cmpi .slt v378 c0_i32_283
  let c0_i32_284 : BitVec 32 := 0#32
  let v381 : BitVec 1 := Scalar.cmpi .slt v377 c0_i32_284
  let v382 : BitVec 1 := Scalar.xori v380 v381
  let c0_i32_282 : BitVec 32 := 0#32
  let v379 : BitVec 1 := Scalar.cmpi .ne v378 c0_i32_282
  let v383 : BitVec 1 := Scalar.andi v382 v379
  let v384 : BitVec 32 := Scalar.addi v378 v377
  let v385 : BitVec 32 := Scalar.select v383 v384 v378
  let v386 : BitVec 32 := Scalar.addi v374 v385
  let c512_i32_285 : BitVec 32 := 512#32
  let v387 : BitVec 32 := Scalar.muli v386 c512_i32_285
  let v388 : Index := Scalar.indexCast v387
  let c0_286 : Index := 0#32
  ![v388.toNat, 0]
def k0_off8 (d0 : Dev nD) (c0_i32_290 : BitVec 32) : Fin 2 → Nat :=
  let c4_i32_289 : BitVec 32 := 4#32
  let c1_i32_275 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v372 : BitVec 32 := Scalar.subi c1_i32_275 v46
  let v395 : BitVec 32 := Scalar.muli c4_i32_289 v372
  let v396 : BitVec 32 := Scalar.addi v395 c0_i32_290
  let c512_i32_291 : BitVec 32 := 512#32
  let v397 : BitVec 32 := Scalar.muli v396 c512_i32_291
  let v398 : Index := Scalar.indexCast v397
  let c0_292 : Index := 0#32
  ![v398.toNat, 0]
def k0_off9 (d0 : Dev nD) (c0_i32_353 : BitVec 32) : Fin 2 → Nat :=
  let c1_i32_350 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v492 : BitVec 32 := Scalar.subi c1_i32_350 v46
  let c2048_i32_351 : BitVec 32 := 2048#32
  let v493 : BitVec 32 := Scalar.muli v492 c2048_i32_351
  let v495 : BitVec 32 := Scalar.addi v493 c0_i32_353
  let c0_i32_364 : BitVec 32 := 0#32
  ![v495.toNat, 0]
def k0_dev12 (d0 : Dev nD) : Nat :=
  let c0_i32_361 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_360 : BitVec 32 := 1#32
  let v496 : BitVec 32 := Scalar.muli v82 c1_i32_360
  let v497 : BitVec 32 := Scalar.addi c0_i32_361 v496
  v497.toNat
def k0_dev13 (d0 : Dev nD) : Nat :=
  let c0_i32_373 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_372 : BitVec 32 := 1#32
  let v505 : BitVec 32 := Scalar.muli v82 c1_i32_372
  let v506 : BitVec 32 := Scalar.addi c0_i32_373 v505
  v506.toNat
def k0_dev14 (d0 : Dev nD) : Nat :=
  let c0_i32_385 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_384 : BitVec 32 := 1#32
  let v514 : BitVec 32 := Scalar.muli v82 c1_i32_384
  let v515 : BitVec 32 := Scalar.addi c0_i32_385 v514
  v515.toNat
def k0_dev15 (d0 : Dev nD) : Nat :=
  let c0_i32_397 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_396 : BitVec 32 := 1#32
  let v523 : BitVec 32 := Scalar.muli v82 c1_i32_396
  let v524 : BitVec 32 := Scalar.addi c0_i32_397 v523
  v524.toNat
def k0_off10 (d0 : Dev nD) (c0_i32_402 : BitVec 32) (c0_i32_403 : BitVec 32) : Fin 2 → Nat :=
  let c4_i32_401 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v531 : BitVec 32 := Scalar.muli c4_i32_401 v19
  let v532 : BitVec 32 := Scalar.addi v531 c0_i32_402
  let v533 : BitVec 32 := Scalar.addi v532 c0_i32_403
  let c512_i32_404 : BitVec 32 := 512#32
  let v534 : BitVec 32 := Scalar.muli v533 c512_i32_404
  let v535 : Index := Scalar.indexCast v534
  let c0_405 : Index := 0#32
  ![v535.toNat, 0]
def k0_off11 (d0 : Dev nD) (c0_i32_410 : BitVec 32) : Fin 2 → Nat :=
  let c4_i32_409 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v542 : BitVec 32 := Scalar.muli c4_i32_409 v19
  let v543 : BitVec 32 := Scalar.addi v542 c0_i32_410
  let c512_i32_411 : BitVec 32 := 512#32
  let v544 : BitVec 32 := Scalar.muli v543 c512_i32_411
  let v545 : Index := Scalar.indexCast v544
  let c0_412 : Index := 0#32
  ![v545.toNat, 0]
def k0_off12 (d0 : Dev nD) (c0_i32_456 : BitVec 32) (c0_i32_449 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v603 : BitVec 32 := Scalar.addi v50 c0_i32_449
  let c2_i32_450 : BitVec 32 := 2#32
  let c0_i32_451 : BitVec 32 := 0#32
  let v604 : BitVec 1 := Scalar.cmpi .eq c2_i32_450 c0_i32_451
  let c1_i32_452 : BitVec 32 := 1#32
  let v605 : BitVec 32 := Scalar.select v604 c1_i32_452 c2_i32_450
  let v606 : BitVec 32 := Scalar.remsi v603 v605
  let c0_i32_454 : BitVec 32 := 0#32
  let v608 : BitVec 1 := Scalar.cmpi .slt v606 c0_i32_454
  let c0_i32_455 : BitVec 32 := 0#32
  let v609 : BitVec 1 := Scalar.cmpi .slt v605 c0_i32_455
  let v610 : BitVec 1 := Scalar.xori v608 v609
  let c0_i32_453 : BitVec 32 := 0#32
  let v607 : BitVec 1 := Scalar.cmpi .ne v606 c0_i32_453
  let v611 : BitVec 1 := Scalar.andi v610 v607
  let v612 : BitVec 32 := Scalar.addi v606 v605
  let v613 : BitVec 32 := Scalar.select v611 v612 v606
  let v614 : BitVec 32 := Scalar.addi c0_i32_456 v613
  let c512_i32_457 : BitVec 32 := 512#32
  let v615 : BitVec 32 := Scalar.muli v614 c512_i32_457
  let v616 : Index := Scalar.indexCast v615
  let c0_458 : Index := 0#32
  ![v616.toNat, 0]
def k0_off12_at (r : Fin 4) : BitVec 32 × BitVec 32 :=
  if r.val < 2 then
    if r.val < 1 then
      (0#32, 0#32)
    else
      (4#32, 0#32)
  else
    if r.val < 3 then
      (2#32, 1#32)
    else
      (6#32, 1#32)
def k0_off13 (d0 : Dev nD) (c0_i32_463 : BitVec 32) : Fin 2 → Nat :=
  let c4_i32_462 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v623 : BitVec 32 := Scalar.muli c4_i32_462 v50
  let v624 : BitVec 32 := Scalar.addi v623 c0_i32_463
  let c512_i32_464 : BitVec 32 := 512#32
  let v625 : BitVec 32 := Scalar.muli v624 c512_i32_464
  let v626 : Index := Scalar.indexCast v625
  let c0_465 : Index := 0#32
  ![v626.toNat, 0]
def k0_off14 (d0 : Dev nD) (c0_i32_518 : BitVec 32) (c0_i32_519 : BitVec 32) : Fin 2 → Nat :=
  let c2_i32_517 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v711 : BitVec 32 := Scalar.muli c2_i32_517 v46
  let v712 : BitVec 32 := Scalar.addi c0_i32_518 v711
  let v713 : BitVec 32 := Scalar.addi c0_i32_519 v46
  let c2_i32_520 : BitVec 32 := 2#32
  let c0_i32_521 : BitVec 32 := 0#32
  let v714 : BitVec 1 := Scalar.cmpi .eq c2_i32_520 c0_i32_521
  let c1_i32_522 : BitVec 32 := 1#32
  let v715 : BitVec 32 := Scalar.select v714 c1_i32_522 c2_i32_520
  let v716 : BitVec 32 := Scalar.remsi v713 v715
  let c0_i32_524 : BitVec 32 := 0#32
  let v718 : BitVec 1 := Scalar.cmpi .slt v716 c0_i32_524
  let c0_i32_525 : BitVec 32 := 0#32
  let v719 : BitVec 1 := Scalar.cmpi .slt v715 c0_i32_525
  let v720 : BitVec 1 := Scalar.xori v718 v719
  let c0_i32_523 : BitVec 32 := 0#32
  let v717 : BitVec 1 := Scalar.cmpi .ne v716 c0_i32_523
  let v721 : BitVec 1 := Scalar.andi v720 v717
  let v722 : BitVec 32 := Scalar.addi v716 v715
  let v723 : BitVec 32 := Scalar.select v721 v722 v716
  let v724 : BitVec 32 := Scalar.addi v712 v723
  let c512_i32_526 : BitVec 32 := 512#32
  let v725 : BitVec 32 := Scalar.muli v724 c512_i32_526
  let v726 : Index := Scalar.indexCast v725
  let c0_527 : Index := 0#32
  ![v726.toNat, 0]
def k0_off15 (d0 : Dev nD) (c0_i32_532 : BitVec 32) : Fin 2 → Nat :=
  let c4_i32_531 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v733 : BitVec 32 := Scalar.muli c4_i32_531 v46
  let v734 : BitVec 32 := Scalar.addi v733 c0_i32_532
  let c512_i32_533 : BitVec 32 := 512#32
  let v735 : BitVec 32 := Scalar.muli v734 c512_i32_533
  let v736 : Index := Scalar.indexCast v735
  let c0_534 : Index := 0#32
  ![v736.toNat, 0]
def k0_off16 (d0 : Dev nD) (c0_i32_603 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c2048_i32_226 : BitVec 32 := 2048#32
  let v335 : BitVec 32 := Scalar.muli v50 c2048_i32_226
  let v837 : BitVec 32 := Scalar.addi v335 c0_i32_603
  let v838 : Index := Scalar.indexCast v837
  let c0_604 : Index := 0#32
  ![v838.toNat, 0]
def k0_off17 (d0 : Dev nD) (c0_i32_620 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_352 : BitVec 32 := 2048#32
  let v494 : BitVec 32 := Scalar.muli v46 c2048_i32_352
  let v856 : BitVec 32 := Scalar.addi v494 c0_i32_620
  let v857 : Index := Scalar.indexCast v856
  let c0_621 : Index := 0#32
  ![v857.toNat, 0]
def k0_off18 (d0 : Dev nD) (c0_i32_637 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_106 : BitVec 32 := 2048#32
  let v184 : BitVec 32 := Scalar.muli v19 c2048_i32_106
  let v875 : BitVec 32 := Scalar.addi v184 c0_i32_637
  let v876 : Index := Scalar.indexCast v875
  let c0_638 : Index := 0#32
  ![v876.toNat, 0]
def k0_off19 (d0 : Dev nD) (c0_i32_761 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c2048_i32_226 : BitVec 32 := 2048#32
  let v335 : BitVec 32 := Scalar.muli v50 c2048_i32_226
  let c1_i32_758 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1020 : BitVec 32 := Scalar.subi c1_i32_758 v46
  let c1024_i32_759 : BitVec 32 := 1024#32
  let v1021 : BitVec 32 := Scalar.muli v1020 c1024_i32_759
  let v1022 : BitVec 32 := Scalar.addi v335 v1021
  let v1025 : BitVec 32 := Scalar.addi v1022 c0_i32_761
  let c0_i32_772 : BitVec 32 := 0#32
  ![v1025.toNat, 0]
def k0_dev16 (d0 : Dev nD) : Nat :=
  let c0_i32_769 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_768 : BitVec 32 := 1#32
  let v1026 : BitVec 32 := Scalar.muli v82 c1_i32_768
  let v1027 : BitVec 32 := Scalar.addi c0_i32_769 v1026
  v1027.toNat
def k0_dev17 (d0 : Dev nD) : Nat :=
  let c0_i32_781 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_780 : BitVec 32 := 1#32
  let v1035 : BitVec 32 := Scalar.muli v82 c1_i32_780
  let v1036 : BitVec 32 := Scalar.addi c0_i32_781 v1035
  v1036.toNat
def k0_off20 (d0 : Dev nD) (c0_i32_804 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_352 : BitVec 32 := 2048#32
  let v494 : BitVec 32 := Scalar.muli v46 c2048_i32_352
  let c1_i32_801 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1062 : BitVec 32 := Scalar.subi c1_i32_801 v19
  let c1024_i32_802 : BitVec 32 := 1024#32
  let v1063 : BitVec 32 := Scalar.muli v1062 c1024_i32_802
  let v1064 : BitVec 32 := Scalar.addi v494 v1063
  let v1067 : BitVec 32 := Scalar.addi v1064 c0_i32_804
  let c0_i32_815 : BitVec 32 := 0#32
  ![v1067.toNat, 0]
def k0_dev18 (d0 : Dev nD) : Nat :=
  let c0_i32_812 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_811 : BitVec 32 := 1#32
  let v1068 : BitVec 32 := Scalar.muli v98 c1_i32_811
  let v1069 : BitVec 32 := Scalar.addi c0_i32_812 v1068
  v1069.toNat
def k0_dev19 (d0 : Dev nD) : Nat :=
  let c0_i32_824 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_823 : BitVec 32 := 1#32
  let v1077 : BitVec 32 := Scalar.muli v98 c1_i32_823
  let v1078 : BitVec 32 := Scalar.addi c0_i32_824 v1077
  v1078.toNat
def k0_off21 (d0 : Dev nD) (c0_i32_848 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_106 : BitVec 32 := 2048#32
  let v184 : BitVec 32 := Scalar.muli v19 c2048_i32_106
  let c1_i32_845 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v1104 : BitVec 32 := Scalar.subi c1_i32_845 v50
  let c1024_i32_846 : BitVec 32 := 1024#32
  let v1105 : BitVec 32 := Scalar.muli v1104 c1024_i32_846
  let v1106 : BitVec 32 := Scalar.addi v184 v1105
  let v1109 : BitVec 32 := Scalar.addi v1106 c0_i32_848
  let c0_i32_859 : BitVec 32 := 0#32
  ![v1109.toNat, 0]
def k0_dev20 (d0 : Dev nD) : Nat :=
  let c0_i32_856 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_855 : BitVec 32 := 1#32
  let v1110 : BitVec 32 := Scalar.muli v66 c1_i32_855
  let v1111 : BitVec 32 := Scalar.addi c0_i32_856 v1110
  v1111.toNat
def k0_dev21 (d0 : Dev nD) : Nat :=
  let c0_i32_868 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_867 : BitVec 32 := 1#32
  let v1119 : BitVec 32 := Scalar.muli v66 c1_i32_867
  let v1120 : BitVec 32 := Scalar.addi c0_i32_868 v1119
  v1120.toNat
def k0_off22 (d0 : Dev nD) (c0_i32_884 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c2048_i32_226 : BitVec 32 := 2048#32
  let v335 : BitVec 32 := Scalar.muli v50 c2048_i32_226
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_760 : BitVec 32 := 1024#32
  let v1023 : BitVec 32 := Scalar.muli v46 c1024_i32_760
  let v1024 : BitVec 32 := Scalar.addi v335 v1023
  let v1134 : BitVec 32 := Scalar.addi v1024 c0_i32_884
  let v1135 : Index := Scalar.indexCast v1134
  let c0_885 : Index := 0#32
  ![v1135.toNat, 0]
def k0_off23 (d0 : Dev nD) (c0_i32_900 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_352 : BitVec 32 := 2048#32
  let v494 : BitVec 32 := Scalar.muli v46 c2048_i32_352
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_803 : BitVec 32 := 1024#32
  let v1065 : BitVec 32 := Scalar.muli v19 c1024_i32_803
  let v1066 : BitVec 32 := Scalar.addi v494 v1065
  let v1153 : BitVec 32 := Scalar.addi v1066 c0_i32_900
  let v1154 : Index := Scalar.indexCast v1153
  let c0_901 : Index := 0#32
  ![v1154.toNat, 0]
def k0_off24 (d0 : Dev nD) (c0_i32_917 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_106 : BitVec 32 := 2048#32
  let v184 : BitVec 32 := Scalar.muli v19 c2048_i32_106
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c1024_i32_847 : BitVec 32 := 1024#32
  let v1107 : BitVec 32 := Scalar.muli v50 c1024_i32_847
  let v1108 : BitVec 32 := Scalar.addi v184 v1107
  let v1172 : BitVec 32 := Scalar.addi v1108 c0_i32_917
  let v1173 : Index := Scalar.indexCast v1172
  let c0_918 : Index := 0#32
  ![v1173.toNat, 0]
def k0_off25 (d0 : Dev nD) (c0_i32_941 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c2048_i32_226 : BitVec 32 := 2048#32
  let v335 : BitVec 32 := Scalar.muli v50 c2048_i32_226
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_760 : BitVec 32 := 1024#32
  let v1023 : BitVec 32 := Scalar.muli v46 c1024_i32_760
  let v1024 : BitVec 32 := Scalar.addi v335 v1023
  let c1_i32_938 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1203 : BitVec 32 := Scalar.subi c1_i32_938 v19
  let c512_i32_939 : BitVec 32 := 512#32
  let v1204 : BitVec 32 := Scalar.muli v1203 c512_i32_939
  let v1205 : BitVec 32 := Scalar.addi v1024 v1204
  let v1208 : BitVec 32 := Scalar.addi v1205 c0_i32_941
  let c0_i32_951 : BitVec 32 := 0#32
  ![v1208.toNat, 0]
def k0_dev22 (d0 : Dev nD) : Nat :=
  let c0_i32_949 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_948 : BitVec 32 := 1#32
  let v1209 : BitVec 32 := Scalar.muli v98 c1_i32_948
  let v1210 : BitVec 32 := Scalar.addi c0_i32_949 v1209
  v1210.toNat
def k0_dev23 (d0 : Dev nD) : Nat :=
  let c0_i32_959 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_958 : BitVec 32 := 1#32
  let v1218 : BitVec 32 := Scalar.muli v98 c1_i32_958
  let v1219 : BitVec 32 := Scalar.addi c0_i32_959 v1218
  v1219.toNat
def k0_dev24 (d0 : Dev nD) : Nat :=
  let c0_i32_969 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_968 : BitVec 32 := 1#32
  let v1227 : BitVec 32 := Scalar.muli v98 c1_i32_968
  let v1228 : BitVec 32 := Scalar.addi c0_i32_969 v1227
  v1228.toNat
def k0_dev25 (d0 : Dev nD) : Nat :=
  let c0_i32_979 : BitVec 32 := 0#32
  let c4_i32_40 : BitVec 32 := 4#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_39 v19
  let v84 : BitVec 32 := Scalar.muli c4_i32_40 v83
  let c2_i32_41 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v85 : BitVec 32 := Scalar.muli c2_i32_41 v46
  let v86 : BitVec 32 := Scalar.addi v84 v85
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v87 : BitVec 32 := Scalar.addi v50 v46
  let c2_i32_42 : BitVec 32 := 2#32
  let c0_i32_43 : BitVec 32 := 0#32
  let v88 : BitVec 1 := Scalar.cmpi .eq c2_i32_42 c0_i32_43
  let c1_i32_44 : BitVec 32 := 1#32
  let v89 : BitVec 32 := Scalar.select v88 c1_i32_44 c2_i32_42
  let v90 : BitVec 32 := Scalar.remsi v87 v89
  let c0_i32_46 : BitVec 32 := 0#32
  let v92 : BitVec 1 := Scalar.cmpi .slt v90 c0_i32_46
  let c0_i32_47 : BitVec 32 := 0#32
  let v93 : BitVec 1 := Scalar.cmpi .slt v89 c0_i32_47
  let v94 : BitVec 1 := Scalar.xori v92 v93
  let c0_i32_45 : BitVec 32 := 0#32
  let v91 : BitVec 1 := Scalar.cmpi .ne v90 c0_i32_45
  let v95 : BitVec 1 := Scalar.andi v94 v91
  let v96 : BitVec 32 := Scalar.addi v90 v89
  let v97 : BitVec 32 := Scalar.select v95 v96 v90
  let v98 : BitVec 32 := Scalar.addi v86 v97
  let c1_i32_978 : BitVec 32 := 1#32
  let v1236 : BitVec 32 := Scalar.muli v98 c1_i32_978
  let v1237 : BitVec 32 := Scalar.addi c0_i32_979 v1236
  v1237.toNat
def k0_off26 (d0 : Dev nD) (c0_i32_1002 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_352 : BitVec 32 := 2048#32
  let v494 : BitVec 32 := Scalar.muli v46 c2048_i32_352
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_803 : BitVec 32 := 1024#32
  let v1065 : BitVec 32 := Scalar.muli v19 c1024_i32_803
  let v1066 : BitVec 32 := Scalar.addi v494 v1065
  let c1_i32_999 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v1263 : BitVec 32 := Scalar.subi c1_i32_999 v50
  let c512_i32_1000 : BitVec 32 := 512#32
  let v1264 : BitVec 32 := Scalar.muli v1263 c512_i32_1000
  let v1265 : BitVec 32 := Scalar.addi v1066 v1264
  let v1268 : BitVec 32 := Scalar.addi v1265 c0_i32_1002
  let c0_i32_1013 : BitVec 32 := 0#32
  ![v1268.toNat, 0]
def k0_dev26 (d0 : Dev nD) : Nat :=
  let c0_i32_1010 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_1009 : BitVec 32 := 1#32
  let v1269 : BitVec 32 := Scalar.muli v66 c1_i32_1009
  let v1270 : BitVec 32 := Scalar.addi c0_i32_1010 v1269
  v1270.toNat
def k0_dev27 (d0 : Dev nD) : Nat :=
  let c0_i32_1022 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_1021 : BitVec 32 := 1#32
  let v1278 : BitVec 32 := Scalar.muli v66 c1_i32_1021
  let v1279 : BitVec 32 := Scalar.addi c0_i32_1022 v1278
  v1279.toNat
def k0_dev28 (d0 : Dev nD) : Nat :=
  let c0_i32_1034 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_1033 : BitVec 32 := 1#32
  let v1287 : BitVec 32 := Scalar.muli v66 c1_i32_1033
  let v1288 : BitVec 32 := Scalar.addi c0_i32_1034 v1287
  v1288.toNat
def k0_dev29 (d0 : Dev nD) : Nat :=
  let c0_i32_1046 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.muli c4_i32_22 v19
  let c2_i32_23 : BitVec 32 := 2#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v53 : BitVec 32 := Scalar.muli c2_i32_23 v46
  let v54 : BitVec 32 := Scalar.addi v52 v53
  let c1_i32_21 : BitVec 32 := 1#32
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v51 : BitVec 32 := Scalar.subi c1_i32_21 v50
  let v55 : BitVec 32 := Scalar.addi v51 v46
  let c2_i32_24 : BitVec 32 := 2#32
  let c0_i32_25 : BitVec 32 := 0#32
  let v56 : BitVec 1 := Scalar.cmpi .eq c2_i32_24 c0_i32_25
  let c1_i32_26 : BitVec 32 := 1#32
  let v57 : BitVec 32 := Scalar.select v56 c1_i32_26 c2_i32_24
  let v58 : BitVec 32 := Scalar.remsi v55 v57
  let c0_i32_28 : BitVec 32 := 0#32
  let v60 : BitVec 1 := Scalar.cmpi .slt v58 c0_i32_28
  let c0_i32_29 : BitVec 32 := 0#32
  let v61 : BitVec 1 := Scalar.cmpi .slt v57 c0_i32_29
  let v62 : BitVec 1 := Scalar.xori v60 v61
  let c0_i32_27 : BitVec 32 := 0#32
  let v59 : BitVec 1 := Scalar.cmpi .ne v58 c0_i32_27
  let v63 : BitVec 1 := Scalar.andi v62 v59
  let v64 : BitVec 32 := Scalar.addi v58 v57
  let v65 : BitVec 32 := Scalar.select v63 v64 v58
  let v66 : BitVec 32 := Scalar.addi v54 v65
  let c1_i32_1045 : BitVec 32 := 1#32
  let v1296 : BitVec 32 := Scalar.muli v66 c1_i32_1045
  let v1297 : BitVec 32 := Scalar.addi c0_i32_1046 v1296
  v1297.toNat
def k0_off27 (d0 : Dev nD) (c0_i32_1070 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_106 : BitVec 32 := 2048#32
  let v184 : BitVec 32 := Scalar.muli v19 c2048_i32_106
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c1024_i32_847 : BitVec 32 := 1024#32
  let v1107 : BitVec 32 := Scalar.muli v50 c1024_i32_847
  let v1108 : BitVec 32 := Scalar.addi v184 v1107
  let c1_i32_1067 : BitVec 32 := 1#32
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1323 : BitVec 32 := Scalar.subi c1_i32_1067 v46
  let c512_i32_1068 : BitVec 32 := 512#32
  let v1324 : BitVec 32 := Scalar.muli v1323 c512_i32_1068
  let v1325 : BitVec 32 := Scalar.addi v1108 v1324
  let v1328 : BitVec 32 := Scalar.addi v1325 c0_i32_1070
  let c0_i32_1081 : BitVec 32 := 0#32
  ![v1328.toNat, 0]
def k0_dev30 (d0 : Dev nD) : Nat :=
  let c0_i32_1078 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_1077 : BitVec 32 := 1#32
  let v1329 : BitVec 32 := Scalar.muli v82 c1_i32_1077
  let v1330 : BitVec 32 := Scalar.addi c0_i32_1078 v1329
  v1330.toNat
def k0_dev31 (d0 : Dev nD) : Nat :=
  let c0_i32_1090 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_1089 : BitVec 32 := 1#32
  let v1338 : BitVec 32 := Scalar.muli v82 c1_i32_1089
  let v1339 : BitVec 32 := Scalar.addi c0_i32_1090 v1338
  v1339.toNat
def k0_dev32 (d0 : Dev nD) : Nat :=
  let c0_i32_1102 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_1101 : BitVec 32 := 1#32
  let v1347 : BitVec 32 := Scalar.muli v82 c1_i32_1101
  let v1348 : BitVec 32 := Scalar.addi c0_i32_1102 v1347
  v1348.toNat
def k0_dev33 (d0 : Dev nD) : Nat :=
  let c0_i32_1114 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_31 v19
  let c2_i32_32 : BitVec 32 := 2#32
  let c1_i32_30 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v67 : BitVec 32 := Scalar.subi c1_i32_30 v46
  let v69 : BitVec 32 := Scalar.muli c2_i32_32 v67
  let v70 : BitVec 32 := Scalar.addi v68 v69
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let v71 : BitVec 32 := Scalar.addi v50 v67
  let c2_i32_33 : BitVec 32 := 2#32
  let c0_i32_34 : BitVec 32 := 0#32
  let v72 : BitVec 1 := Scalar.cmpi .eq c2_i32_33 c0_i32_34
  let c1_i32_35 : BitVec 32 := 1#32
  let v73 : BitVec 32 := Scalar.select v72 c1_i32_35 c2_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let v82 : BitVec 32 := Scalar.addi v70 v81
  let c1_i32_1113 : BitVec 32 := 1#32
  let v1356 : BitVec 32 := Scalar.muli v82 c1_i32_1113
  let v1357 : BitVec 32 := Scalar.addi c0_i32_1114 v1356
  v1357.toNat
def k0_off28 (d0 : Dev nD) (c0_i32_1130 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c2048_i32_226 : BitVec 32 := 2048#32
  let v335 : BitVec 32 := Scalar.muli v50 c2048_i32_226
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1024_i32_760 : BitVec 32 := 1024#32
  let v1023 : BitVec 32 := Scalar.muli v46 c1024_i32_760
  let v1024 : BitVec 32 := Scalar.addi v335 v1023
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_940 : BitVec 32 := 512#32
  let v1206 : BitVec 32 := Scalar.muli v19 c512_i32_940
  let v1207 : BitVec 32 := Scalar.addi v1024 v1206
  let v1371 : BitVec 32 := Scalar.addi v1207 c0_i32_1130
  let v1372 : Index := Scalar.indexCast v1371
  let c0_1131 : Index := 0#32
  ![v1372.toNat, 0]
def k0_off29 (d0 : Dev nD) (c0_i32_1148 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2048_i32_352 : BitVec 32 := 2048#32
  let v494 : BitVec 32 := Scalar.muli v46 c2048_i32_352
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1024_i32_803 : BitVec 32 := 1024#32
  let v1065 : BitVec 32 := Scalar.muli v19 c1024_i32_803
  let v1066 : BitVec 32 := Scalar.addi v494 v1065
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c512_i32_1001 : BitVec 32 := 512#32
  let v1266 : BitVec 32 := Scalar.muli v50 c512_i32_1001
  let v1267 : BitVec 32 := Scalar.addi v1066 v1266
  let v1390 : BitVec 32 := Scalar.addi v1267 c0_i32_1148
  let v1391 : Index := Scalar.indexCast v1390
  let c0_1149 : Index := 0#32
  ![v1391.toNat, 0]
def k0_off30 (d0 : Dev nD) (c0_i32_1167 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_106 : BitVec 32 := 2048#32
  let v184 : BitVec 32 := Scalar.muli v19 c2048_i32_106
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 1 := Scalar.cmpi .eq v29 c1_i32_17
  let c2_i32_18 : BitVec 32 := 2#32
  let v48 : BitVec 1 := Scalar.cmpi .eq v29 c2_i32_18
  let v49 : BitVec 1 := Scalar.ori v47 v48
  let c1_i32_19 : BitVec 32 := 1#32
  let c0_i32_20 : BitVec 32 := 0#32
  let v50 : BitVec 32 := Scalar.select v49 c1_i32_19 c0_i32_20
  let c1024_i32_847 : BitVec 32 := 1024#32
  let v1107 : BitVec 32 := Scalar.muli v50 c1024_i32_847
  let v1108 : BitVec 32 := Scalar.addi v184 v1107
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c512_i32_1069 : BitVec 32 := 512#32
  let v1326 : BitVec 32 := Scalar.muli v46 c512_i32_1069
  let v1327 : BitVec 32 := Scalar.addi v1108 v1326
  let v1409 : BitVec 32 := Scalar.addi v1327 c0_i32_1167
  let v1410 : Index := Scalar.indexCast v1409
  let c0_1168 : Index := 0#32
  ![v1410.toNat, 0]
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Geom.lean ====
/-
# The three-cube of devices and the closed forms of the kernel's addresses

Device `c` sits at the corner of a cube with coordinates read off its number; `nbr a` flips coordinate `a`. Each of
the three column groups reduces along the axes in its own rotated order. Every row offset and every peer that the
kernel computes from its device number is stated here in terms of these coordinates.
-/
module

public import proofs.«01_k».proof.Proof.Gen.KernelIdeal
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic

/-- Coordinate `a` (0 is x, 1 is y, 2 is z) of device `c`. -/
def bit (a : Fin 3) (c : Dev nD) : ℕ := match a with
  | 0 => if c.val % 4 = 1 ∨ c.val % 4 = 2 then 1 else 0
  | 1 => c.val % 4 / 2
  | 2 => c.val / 4

set_option backward.proofsInPublic true in
/-- The device whose coordinate `a` is the other one. -/
def nbr (a : Fin 3) (c : Dev nD) : Dev nD :=
  ⟨c.val ^^^ (![1, 3, 4] : Fin 3 → ℕ) a, by revert a c; decide⟩

theorem nbr_nbr (a : Fin 3) (c : Dev nD) : nbr a (nbr a c) = c := by revert a c; decide
theorem bit_nbr (a : Fin 3) (c : Dev nD) : bit a (nbr a c) = 1 - bit a c := by revert a c; decide
theorem bit_nbr_ne (a b : Fin 3) (c : Dev nD) (h : b ≠ a) : bit b (nbr a c) = bit b c := by revert a b c; decide
theorem bit_le (a : Fin 3) (c : Dev nD) : bit a c ≤ 1 := by revert a c; decide
theorem nbr_ne (a : Fin 3) (c : Dev nD) : nbr a c ≠ c := by revert a c; decide

/-- The axis that group `g` reduces along in its stage `k`. -/
def ord (g k : Fin 3) : Fin 3 := g + k

/-- First row of what group `g` keeps on device `c` after stage `k`. -/
def own (g : Fin 3) (k : Fin 3) (c : Dev nD) : ℕ := match k with
  | 0 => bit (ord g 0) c * 2048
  | 1 => bit (ord g 0) c * 2048 + bit (ord g 1) c * 1024
  | 2 => bit (ord g 0) c * 2048 + bit (ord g 1) c * 1024 + bit (ord g 2) c * 512

/-- First row of what group `g` on device `c` sends in stage `k`. -/
def snd (g : Fin 3) (k : Fin 3) (c : Dev nD) : ℕ := match k with
  | 0 => (1 - bit (ord g 0) c) * 2048
  | 1 => bit (ord g 0) c * 2048 + (1 - bit (ord g 1) c) * 1024
  | 2 => bit (ord g 0) c * 2048 + bit (ord g 1) c * 1024 + (1 - bit (ord g 2) c) * 512

/-- The ten transfers of a group, in order: stage, piece, rows of a piece, first row in the landing buffer. -/
def kOf (i : Fin 10) : Fin 3 := (![0, 0, 0, 0, 1, 1, 2, 2, 2, 2] : Fin 10 → Fin 3) i
def sOf (i : Fin 10) : ℕ := (![0, 1, 2, 3, 0, 1, 0, 1, 2, 3] : Fin 10 → ℕ) i
def szOf (i : Fin 10) : ℕ := (![512, 512, 512, 512, 512, 512, 128, 128, 128, 128] : Fin 10 → ℕ) i
def rOf (i : Fin 10) : ℕ := (![0, 512, 1024, 1536, 2048, 2560, 3072, 3200, 3328, 3456] : Fin 10 → ℕ) i

/-- The device that transfer `i` of group `g` goes to and comes from. -/
def peer (g : Fin 3) (i : Fin 10) (c : Dev nD) : Dev nD := nbr (ord g (kOf i)) c
theorem peer_peer (g : Fin 3) (i : Fin 10) (c : Dev nD) : peer g i (peer g i c) = c := nbr_nbr _ _

/-- First row, in the partial sums, of transfer `i` as device `c` sends it; as it receives it. -/
def srcRow (g : Fin 3) (i : Fin 10) (c : Dev nD) : ℕ := snd g (kOf i) c + szOf i * sOf i
def dstRow (g : Fin 3) (i : Fin 10) (c : Dev nD) : ℕ := own g (kOf i) c + szOf i * sOf i

/-- What the peer sends is what the device keeps. -/
theorem srcRow_peer (g : Fin 3) (i : Fin 10) (c : Dev nD) : srcRow g i (peer g i c) = dstRow g i c := by
  revert g i c; decide +kernel

theorem srcRow_le (g : Fin 3) (i : Fin 10) (c : Dev nD) : srcRow g i c + szOf i ≤ 4096 := by revert g i c; decide +kernel
theorem dstRow_le (g : Fin 3) (i : Fin 10) (c : Dev nD) : dstRow g i c + szOf i ≤ 4096 := by revert g i c; decide +kernel
theorem rOf_le (i : Fin 10) : rOf i + szOf i ≤ 3584 := by revert i; decide

/-- The device whose rows of the result slot `s` of group `g` holds: the slot's three bits are coordinates, in the
    group's order. -/
def chunk (g : Fin 3) (s : ℕ) : ℕ :=
  let b : Fin 3 → ℕ := ![s / 4 % 2, s / 2 % 2, s % 2]
  let x := b (0 - g); let y := b (1 - g); let z := b (2 - g)
  4 * z + 2 * y + (x + y) % 2

theorem chunk_lt (g : Fin 3) (s : ℕ) : chunk g s < 8 := by
  unfold chunk
  have h : ∀ (a b c : ℕ), 4 * (c % 2) + 2 * (b % 2) + (a + b) % 2 < 8 := fun a b c => by omega
  have h0 := Nat.mod_lt (s / 4) (Nat.succ_pos 1)
  have h1 := Nat.mod_lt (s / 2) (Nat.succ_pos 1)
  have h2 := Nat.mod_lt s (Nat.succ_pos 1)
  fin_cases g <;> simp <;> omega

/-- The slot a device keeps to the end holds its own rows. -/
theorem chunk_own (g : Fin 3) (c : Dev nD) : chunk g (own g 2 c / 512) = c.val := by revert g c; decide +kernel

/-! ### The kernel's peers -/

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel
theorem dev4_eq (c : Dev nD) : (⟨k0_dev4 c, k0_dev4_lt c⟩ : Dev nD) = nbr 2 c := by revert c; decide +kernel
theorem dev5_eq (c : Dev nD) : (⟨k0_dev5 c, k0_dev5_lt c⟩ : Dev nD) = nbr 2 c := by revert c; decide +kernel
theorem dev6_eq (c : Dev nD) : (⟨k0_dev6 c, k0_dev6_lt c⟩ : Dev nD) = nbr 2 c := by revert c; decide +kernel
theorem dev7_eq (c : Dev nD) : (⟨k0_dev7 c, k0_dev7_lt c⟩ : Dev nD) = nbr 2 c := by revert c; decide +kernel
theorem dev8_eq (c : Dev nD) : (⟨k0_dev8 c, k0_dev8_lt c⟩ : Dev nD) = nbr 0 c := by revert c; decide +kernel
theorem dev9_eq (c : Dev nD) : (⟨k0_dev9 c, k0_dev9_lt c⟩ : Dev nD) = nbr 0 c := by revert c; decide +kernel
theorem dev10_eq (c : Dev nD) : (⟨k0_dev10 c, k0_dev10_lt c⟩ : Dev nD) = nbr 0 c := by revert c; decide +kernel
theorem dev11_eq (c : Dev nD) : (⟨k0_dev11 c, k0_dev11_lt c⟩ : Dev nD) = nbr 0 c := by revert c; decide +kernel
theorem dev12_eq (c : Dev nD) : (⟨k0_dev12 c, k0_dev12_lt c⟩ : Dev nD) = nbr 1 c := by revert c; decide +kernel
theorem dev13_eq (c : Dev nD) : (⟨k0_dev13 c, k0_dev13_lt c⟩ : Dev nD) = nbr 1 c := by revert c; decide +kernel
theorem dev14_eq (c : Dev nD) : (⟨k0_dev14 c, k0_dev14_lt c⟩ : Dev nD) = nbr 1 c := by revert c; decide +kernel
theorem dev15_eq (c : Dev nD) : (⟨k0_dev15 c, k0_dev15_lt c⟩ : Dev nD) = nbr 1 c := by revert c; decide +kernel
theorem dev16_eq (c : Dev nD) : (⟨k0_dev16 c, k0_dev16_lt c⟩ : Dev nD) = nbr 1 c := by revert c; decide +kernel
theorem dev17_eq (c : Dev nD) : (⟨k0_dev17 c, k0_dev17_lt c⟩ : Dev nD) = nbr 1 c := by revert c; decide +kernel
theorem dev18_eq (c : Dev nD) : (⟨k0_dev18 c, k0_dev18_lt c⟩ : Dev nD) = nbr 2 c := by revert c; decide +kernel
theorem dev19_eq (c : Dev nD) : (⟨k0_dev19 c, k0_dev19_lt c⟩ : Dev nD) = nbr 2 c := by revert c; decide +kernel
theorem dev20_eq (c : Dev nD) : (⟨k0_dev20 c, k0_dev20_lt c⟩ : Dev nD) = nbr 0 c := by revert c; decide +kernel
theorem dev21_eq (c : Dev nD) : (⟨k0_dev21 c, k0_dev21_lt c⟩ : Dev nD) = nbr 0 c := by revert c; decide +kernel
theorem dev22_eq (c : Dev nD) : (⟨k0_dev22 c, k0_dev22_lt c⟩ : Dev nD) = nbr 2 c := by revert c; decide +kernel
theorem dev23_eq (c : Dev nD) : (⟨k0_dev23 c, k0_dev23_lt c⟩ : Dev nD) = nbr 2 c := by revert c; decide +kernel
theorem dev24_eq (c : Dev nD) : (⟨k0_dev24 c, k0_dev24_lt c⟩ : Dev nD) = nbr 2 c := by revert c; decide +kernel
theorem dev25_eq (c : Dev nD) : (⟨k0_dev25 c, k0_dev25_lt c⟩ : Dev nD) = nbr 2 c := by revert c; decide +kernel
theorem dev26_eq (c : Dev nD) : (⟨k0_dev26 c, k0_dev26_lt c⟩ : Dev nD) = nbr 0 c := by revert c; decide +kernel
theorem dev27_eq (c : Dev nD) : (⟨k0_dev27 c, k0_dev27_lt c⟩ : Dev nD) = nbr 0 c := by revert c; decide +kernel
theorem dev28_eq (c : Dev nD) : (⟨k0_dev28 c, k0_dev28_lt c⟩ : Dev nD) = nbr 0 c := by revert c; decide +kernel
theorem dev29_eq (c : Dev nD) : (⟨k0_dev29 c, k0_dev29_lt c⟩ : Dev nD) = nbr 0 c := by revert c; decide +kernel
theorem dev30_eq (c : Dev nD) : (⟨k0_dev30 c, k0_dev30_lt c⟩ : Dev nD) = nbr 1 c := by revert c; decide +kernel
theorem dev31_eq (c : Dev nD) : (⟨k0_dev31 c, k0_dev31_lt c⟩ : Dev nD) = nbr 1 c := by revert c; decide +kernel
theorem dev32_eq (c : Dev nD) : (⟨k0_dev32 c, k0_dev32_lt c⟩ : Dev nD) = nbr 1 c := by revert c; decide +kernel
theorem dev33_eq (c : Dev nD) : (⟨k0_dev33 c, k0_dev33_lt c⟩ : Dev nD) = nbr 1 c := by revert c; decide +kernel

/-! ### The kernel's row offsets

The rows of `x` that feed slot `r` of a half; the slots of a half; the pieces sent; the rows accumulated or read. -/

theorem off1_eq (c : Dev nD) (r : Fin 4) : k0_off1 c (BitVec.ofNat 32 (2 * (![0, 1, 0, 1] : Fin 4 → ℕ) r)) (BitVec.ofNat 32 ((![0, 1, 1, 0] : Fin 4 → ℕ) r))
    = ![512 * chunk 2 (snd 2 0 c / 512 + r.val), 0] := by revert c r; decide +kernel
theorem off4_eq (c : Dev nD) (r : Fin 4) : k0_off4 c (BitVec.ofNat 32 (2 * (![0, 2, 1, 3] : Fin 4 → ℕ) r)) (BitVec.ofNat 32 ((![0, 0, 1, 1] : Fin 4 → ℕ) r))
    = ![512 * chunk 0 (snd 0 0 c / 512 + r.val), 0] := by revert c r; decide +kernel
theorem off7_eq (c : Dev nD) (r : Fin 4) : k0_off7 c (BitVec.ofNat 32 (4 * (![0, 0, 1, 1] : Fin 4 → ℕ) r)) (BitVec.ofNat 32 ((![0, 1, 0, 1] : Fin 4 → ℕ) r))
    = ![512 * chunk 1 (snd 1 0 c / 512 + r.val), 0] := by revert c r; decide +kernel
theorem off10_eq (c : Dev nD) (r : Fin 4) : k0_off10 c (BitVec.ofNat 32 (2 * (![0, 1, 0, 1] : Fin 4 → ℕ) r)) (BitVec.ofNat 32 ((![0, 1, 1, 0] : Fin 4 → ℕ) r))
    = ![512 * chunk 2 (own 2 0 c / 512 + r.val), 0] := by revert c r; decide +kernel
theorem off12_eq (c : Dev nD) (r : Fin 4) : k0_off12 c (BitVec.ofNat 32 (2 * (![0, 2, 1, 3] : Fin 4 → ℕ) r)) (BitVec.ofNat 32 ((![0, 0, 1, 1] : Fin 4 → ℕ) r))
    = ![512 * chunk 0 (own 0 0 c / 512 + r.val), 0] := by revert c r; decide +kernel
theorem off14_eq (c : Dev nD) (r : Fin 4) : k0_off14 c (BitVec.ofNat 32 (4 * (![0, 0, 1, 1] : Fin 4 → ℕ) r)) (BitVec.ofNat 32 ((![0, 1, 0, 1] : Fin 4 → ℕ) r))
    = ![512 * chunk 1 (own 1 0 c / 512 + r.val), 0] := by revert c r; decide +kernel
theorem off2_eq (c : Dev nD) (r : Fin 4) : k0_off2 c (BitVec.ofNat 32 (1 * r.val)) = ![snd 2 0 c + 512 * r.val, 0] := by revert c r; decide +kernel
theorem off5_eq (c : Dev nD) (r : Fin 4) : k0_off5 c (BitVec.ofNat 32 (1 * r.val)) = ![snd 0 0 c + 512 * r.val, 0] := by revert c r; decide +kernel
theorem off8_eq (c : Dev nD) (r : Fin 4) : k0_off8 c (BitVec.ofNat 32 (1 * r.val)) = ![snd 1 0 c + 512 * r.val, 0] := by revert c r; decide +kernel
theorem off11_eq (c : Dev nD) (r : Fin 4) : k0_off11 c (BitVec.ofNat 32 (1 * r.val)) = ![own 2 0 c + 512 * r.val, 0] := by revert c r; decide +kernel
theorem off13_eq (c : Dev nD) (r : Fin 4) : k0_off13 c (BitVec.ofNat 32 (1 * r.val)) = ![own 0 0 c + 512 * r.val, 0] := by revert c r; decide +kernel
theorem off15_eq (c : Dev nD) (r : Fin 4) : k0_off15 c (BitVec.ofNat 32 (1 * r.val)) = ![own 1 0 c + 512 * r.val, 0] := by revert c r; decide +kernel
theorem off3_eq (c : Dev nD) (r : Fin 4) : k0_off3 c (BitVec.ofNat 32 (512 * r.val)) = ![snd 2 0 c + 512 * r.val, 0] := by revert c r; decide +kernel
theorem off6_eq (c : Dev nD) (r : Fin 4) : k0_off6 c (BitVec.ofNat 32 (512 * r.val)) = ![snd 0 0 c + 512 * r.val, 0] := by revert c r; decide +kernel
theorem off9_eq (c : Dev nD) (r : Fin 4) : k0_off9 c (BitVec.ofNat 32 (512 * r.val)) = ![snd 1 0 c + 512 * r.val, 0] := by revert c r; decide +kernel
theorem off16_eq (c : Dev nD) (r : Fin 4) : k0_off16 c (BitVec.ofNat 32 (512 * r.val)) = ![own 0 0 c + 512 * r.val, 0] := by revert c r; decide +kernel
theorem off17_eq (c : Dev nD) (r : Fin 4) : k0_off17 c (BitVec.ofNat 32 (512 * r.val)) = ![own 1 0 c + 512 * r.val, 0] := by revert c r; decide +kernel
theorem off18_eq (c : Dev nD) (r : Fin 4) : k0_off18 c (BitVec.ofNat 32 (512 * r.val)) = ![own 2 0 c + 512 * r.val, 0] := by revert c r; decide +kernel
theorem off19_eq (c : Dev nD) (r : Fin 2) : k0_off19 c (BitVec.ofNat 32 (512 * r.val)) = ![snd 0 1 c + 512 * r.val, 0] := by revert c r; decide +kernel
theorem off20_eq (c : Dev nD) (r : Fin 2) : k0_off20 c (BitVec.ofNat 32 (512 * r.val)) = ![snd 1 1 c + 512 * r.val, 0] := by revert c r; decide +kernel
theorem off21_eq (c : Dev nD) (r : Fin 2) : k0_off21 c (BitVec.ofNat 32 (512 * r.val)) = ![snd 2 1 c + 512 * r.val, 0] := by revert c r; decide +kernel
theorem off22_eq (c : Dev nD) (r : Fin 2) : k0_off22 c (BitVec.ofNat 32 (512 * r.val)) = ![own 0 1 c + 512 * r.val, 0] := by revert c r; decide +kernel
theorem off23_eq (c : Dev nD) (r : Fin 2) : k0_off23 c (BitVec.ofNat 32 (512 * r.val)) = ![own 1 1 c + 512 * r.val, 0] := by revert c r; decide +kernel
theorem off24_eq (c : Dev nD) (r : Fin 2) : k0_off24 c (BitVec.ofNat 32 (512 * r.val)) = ![own 2 1 c + 512 * r.val, 0] := by revert c r; decide +kernel
theorem off25_eq (c : Dev nD) (r : Fin 4) : k0_off25 c (BitVec.ofNat 32 (128 * r.val)) = ![snd 0 2 c + 128 * r.val, 0] := by revert c r; decide +kernel
theorem off26_eq (c : Dev nD) (r : Fin 4) : k0_off26 c (BitVec.ofNat 32 (128 * r.val)) = ![snd 1 2 c + 128 * r.val, 0] := by revert c r; decide +kernel
theorem off27_eq (c : Dev nD) (r : Fin 4) : k0_off27 c (BitVec.ofNat 32 (128 * r.val)) = ![snd 2 2 c + 128 * r.val, 0] := by revert c r; decide +kernel
theorem off28_eq (c : Dev nD) (r : Fin 4) : k0_off28 c (BitVec.ofNat 32 (128 * r.val)) = ![own 0 2 c + 128 * r.val, 0] := by revert c r; decide +kernel
theorem off29_eq (c : Dev nD) (r : Fin 4) : k0_off29 c (BitVec.ofNat 32 (128 * r.val)) = ![own 1 2 c + 128 * r.val, 0] := by revert c r; decide +kernel
theorem off30_eq (c : Dev nD) (r : Fin 4) : k0_off30 c (BitVec.ofNat 32 (128 * r.val)) = ![own 2 2 c + 128 * r.val, 0] := by revert c r; decide +kernel

end Cert.KernelIdeal.Run
-- ==== Proof.Rows.lean ====
/-
# Owning consecutive rows of a two-axis buffer

A device holds rows `lo` up to `hi` of a memref, either at any contents (`Junk`) or at contents given as a function of
row and column (`Rows`). The rows split and join, loads and stores act on them, and they are what a slice of whole rows
owns.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the protocol's own, whose duties are named by an axis. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

section
variable {R C : ℕ} {e : EltTy}

/-- Rows `lo` up to `hi`. -/
def band (R C lo hi : ℕ) : Finset (⟨2, ![R, C]⟩ : Shape).Idx :=
  Finset.univ.filter fun x => lo ≤ (x 0).val ∧ (x 0).val < hi

theorem mem_band {lo hi : ℕ} {x : (⟨2, ![R, C]⟩ : Shape).Idx} : x ∈ band R C lo hi ↔ lo ≤ (x 0).val ∧ (x 0).val < hi := by
  simp [band]

theorem band_union {lo k hi : ℕ} (h₁ : lo ≤ k) (h₂ : k ≤ hi) : band R C lo hi = band R C lo k ∪ band R C k hi := by
  ext x; rw [Finset.mem_union, mem_band, mem_band, mem_band]; omega

theorem band_disjoint {lo k hi : ℕ} : Disjoint (band R C lo k) (band R C k hi) := by
  rw [Finset.disjoint_left]; intro x h₁ h₂; rw [mem_band] at h₁ h₂; omega

theorem unit_set {o n : ℕ} {off : Fin 2 → ℕ} (hoff : off = ![o, 0])
    (inb : ∀ a, off a + (![n, C] : Fin 2 → ℕ) a ≤ (![R, C] : Fin 2 → ℕ) a) :
    (Rect.unit (s := ⟨2, ![R, C]⟩) off ![n, C] inb).set = band R C o (o + n) := by
  subst hoff
  ext x
  rw [Rect.mem_set_unit, mem_band]
  constructor
  · intro h; exact h 0
  · intro h a
    match a with
    | 0 => exact h
    | 1 => exact ⟨Nat.zero_le _, by have := (x 1).isLt; simpa using this⟩

theorem emb_mem_set {s : Shape} (r : Rect s) (j : r.shape.Idx) : r.emb j ∈ r.set := by
  rw [← Rect.map_emb_univ]; exact Finset.mem_map_of_mem _ (Finset.mem_univ j)

variable (c : Dev nD) (m : Memref sig .tc .vmem ⟨2, ![R, C]⟩ e)

/-- Rows `lo` up to `hi` held, at any contents. -/
def Junk (lo hi : ℕ) : sProp 𝕄 :=
  iprop(∃ f : Buf (Elt F) (m.view.loc (c : Thread nD τ)), m.view.loc (c : Thread nD τ) ↦[m.view.setOn (band R C lo hi)]{fullShare} f)

/-- Rows `lo` up to `hi` held, reading `B row column`. -/
def Rows (lo hi : ℕ) (B : ℕ → ℕ → Elt F e) : sProp 𝕄 :=
  iprop(∃ f : Buf (Elt F) (m.view.loc (c : Thread nD τ)), ⌜∀ x ∈ band R C lo hi, m.view.read (Elt F) f x = B (x 0).val (x 1).val⌝
    ∗ (m.view.loc (c : Thread nD τ) ↦[m.view.setOn (band R C lo hi)]{fullShare} f))

omit [FloatOps F] in
instance junk_storable (lo hi : ℕ) : BI.Storable (upEmb : UEmb _ 𝕄) (Junk (F := F) c m lo hi) := by unfold Junk; infer_instance
omit [FloatOps F] in
instance rows_storable (lo hi : ℕ) (B : ℕ → ℕ → Elt F e) : BI.Storable (upEmb : UEmb _ 𝕄) (Rows (F := F) c m lo hi B) := by
  unfold Rows; infer_instance

variable {c m}
variable {lo k hi : ℕ} {B B' : ℕ → ℕ → Elt F e}

omit [FloatOps F] in
theorem setOn_union (h₁ : lo ≤ k) (h₂ : k ≤ hi) :
    m.view.setOn (band R C lo hi) = m.view.setOn (band R C lo k) ∪ m.view.setOn (band R C k hi) := by
  unfold View.setOn; rw [band_union h₁ h₂, Finset.map_union]

omit [FloatOps F] in
theorem setOn_disj : Disjoint (m.view.setOn (band R C lo k)) (m.view.setOn (band R C k hi)) := by
  unfold View.setOn; exact (Finset.disjoint_map _).mpr band_disjoint

omit [FloatOps F] in
theorem rows_junk : Rows c m lo hi B ⊢ (Junk c m lo hi : sProp 𝕄) := by
  unfold Rows Junk; iintro ⟨%f, -, H⟩; iexists f; iexact H

omit [FloatOps F] in
theorem junk_nil_rows {lo' : ℕ} {B' : ℕ → ℕ → Elt F e} : Junk c m lo' lo' ⊢ (Rows c m lo' lo' B' : sProp 𝕄) := by
  unfold Junk Rows; iintro ⟨%f, H⟩; iexists f; isplitr
  · ipureintro; intro x hx; rw [mem_band] at hx; omega
  · iexact H
omit [FloatOps F] in
theorem rows_congr (h : ∀ r q, lo ≤ r → r < hi → q < C → B r q = B' r q) : Rows c m lo hi B ⊢ (Rows c m lo hi B' : sProp 𝕄) := by
  unfold Rows; iintro ⟨%f, %hf, H⟩; iexists f; isplitr
  · ipureintro; intro x hx
    rw [hf x hx]
    exact h _ _ (mem_band.mp hx).1 (mem_band.mp hx).2 (by have := (x 1).isLt; simpa using this)
  · iexact H

omit [FloatOps F] in
theorem junk_split (h₁ : lo ≤ k) (h₂ : k ≤ hi) : Junk c m lo hi ⊢ (iprop(Junk c m lo k ∗ Junk c m k hi) : sProp 𝕄) := by
  unfold Junk
  iintro ⟨%f, H⟩
  rw [setOn_union h₁ h₂]
  ihave H' := ((pointsTo_union setOn_disj).1) $$ H
  icases H' with ⟨H1, H2⟩
  isplitl [H1]
  · iexists f; iexact H1
  · iexists f; iexact H2

omit [FloatOps F] in
theorem rows_split (h₁ : lo ≤ k) (h₂ : k ≤ hi) : Rows c m lo hi B ⊢ (iprop(Rows c m lo k B ∗ Rows c m k hi B) : sProp 𝕄) := by
  unfold Rows
  iintro ⟨%f, %hf, H⟩
  rw [setOn_union h₁ h₂]
  ihave H' := ((pointsTo_union setOn_disj).1) $$ H
  icases H' with ⟨H1, H2⟩
  rw [band_union h₁ h₂] at hf
  isplitl [H1]
  · iexists f; isplitr
    · ipureintro; exact fun x hx => hf x (Finset.mem_union_left _ hx)
    · iexact H1
  · iexists f; isplitr
    · ipureintro; exact fun x hx => hf x (Finset.mem_union_right _ hx)
    · iexact H2

omit [FloatOps F] in
theorem junk_join (h₁ : lo ≤ k) (h₂ : k ≤ hi) : iprop(Junk c m lo k ∗ Junk c m k hi) ⊢ (Junk c m lo hi : sProp 𝕄) := by
  unfold Junk
  rw [setOn_union h₁ h₂]
  iintro ⟨⟨%f, H1⟩, ⟨%g, H2⟩⟩
  iexists _
  iapply (pointsTo_join setOn_disj)
  isplitl [H1]; · iexact H1
  iexact H2

omit [FloatOps F] in
theorem rows_join (h₁ : lo ≤ k) (h₂ : k ≤ hi) : iprop(Rows c m lo k B ∗ Rows c m k hi B) ⊢ (Rows c m lo hi B : sProp 𝕄) := by
  unfold Rows
  rw [setOn_union h₁ h₂]
  iintro ⟨⟨%f, %hf, H1⟩, ⟨%g, %hg, H2⟩⟩
  iexists (m.view.setOn (band R C k hi)).piecewise g f
  isplitr
  · ipureintro
    intro x hx
    rw [band_union h₁ h₂, Finset.mem_union] at hx
    by_cases hx2 : x ∈ band R C k hi
    · rw [← hg x hx2, View.read_apply, View.read_apply, Finset.piecewise_eq_of_mem _ _ _ ((m.view.mem_setOn).mpr hx2)]
    · rw [← hf x (hx.resolve_right hx2), View.read_apply, View.read_apply,
        Finset.piecewise_eq_of_notMem _ _ _ (fun h => hx2 ((m.view.mem_setOn).mp h))]
  · iapply (pointsTo_join setOn_disj)
    isplitl [H1]; · iexact H1
    iexact H2

section Access
variable {o n : ℕ} {off : Fin 2 → ℕ} (hoff : off = ![o, 0])
  {inb : ∀ a, off a + (![n, C] : Fin 2 → ℕ) a ≤ (![R, C] : Fin 2 → ℕ) a}

include hoff in
/-- Where a slice of whole rows puts its coordinates. -/
theorem unit_idx (j : (⟨2, ![n, C]⟩ : Shape).Idx) :
    ((Rect.unit (s := ⟨2, ![R, C]⟩) off ![n, C] inb).emb j 0).val = o + (j 0).val
      ∧ ((Rect.unit (s := ⟨2, ![R, C]⟩) off ![n, C] inb).emb j 1).val = (j 1).val := by
  subst hoff
  constructor
  · show o + 1 * (j 0).val = _; omega
  · show 0 + 1 * (j 1).val = _; omega

include hoff in
omit [FloatOps F] in
/-- The rows as what a slice of them owns, and back. -/
theorem rows_owns {hr : ∀ a, (Rect.unit (s := ⟨2, ![R, C]⟩) off ![n, C] inb).stride a = 1} :
    Rows c m o (o + n) B
      ⊢ (iprop(∃ f, ⌜(m.slice (Rect.unit (s := ⟨2, ![R, C]⟩) off ![n, C] inb) hr).view.read (Elt F) f = fun j => B (o + (j 0).val) (j 1).val⌝
          ∗ ((m.slice (Rect.unit (s := ⟨2, ![R, C]⟩) off ![n, C] inb) hr).view.loc (c : Thread nD τ)
              ↦[(m.slice (Rect.unit (s := ⟨2, ![R, C]⟩) off ![n, C] inb) hr).view.set]{fullShare} f)) : sProp 𝕄) := by
  unfold Rows
  iintro ⟨%f, %hf, H⟩
  iexists f
  isplitr
  · ipureintro
    funext j
    have h := hf ((Rect.unit (s := ⟨2, ![R, C]⟩) off ![n, C] inb).emb j) (by
      rw [← unit_set hoff inb]; exact emb_mem_set _ _)
    rw [(unit_idx hoff (inb := inb) j).1, (unit_idx hoff (inb := inb) j).2] at h
    exact h
  · rw [← unit_set hoff inb]
    rw [show (m.slice (Rect.unit (s := ⟨2, ![R, C]⟩) off ![n, C] inb) hr).view.set
      = m.view.setOn (Rect.unit (s := ⟨2, ![R, C]⟩) off ![n, C] inb).set from m.view.set_slice _]
    iexact H

include hoff in
omit [FloatOps F] in
theorem junk_owns {hr : ∀ a, (Rect.unit (s := ⟨2, ![R, C]⟩) off ![n, C] inb).stride a = 1} :
    (Junk c m o (o + n) : sProp 𝕄)
      ⊢ iprop(∃ f, ((m.slice (Rect.unit (s := ⟨2, ![R, C]⟩) off ![n, C] inb) hr).view.loc (c : Thread nD τ)
              ↦[(m.slice (Rect.unit (s := ⟨2, ![R, C]⟩) off ![n, C] inb) hr).view.set]{fullShare} f)) := by
  unfold Junk
  iintro ⟨%f, H⟩
  iexists f
  rw [← unit_set hoff inb]
  rw [show (m.slice (Rect.unit (s := ⟨2, ![R, C]⟩) off ![n, C] inb) hr).view.set
    = m.view.setOn (Rect.unit (s := ⟨2, ![R, C]⟩) off ![n, C] inb).set from m.view.set_slice _]
  iexact H

include hoff in
omit [FloatOps F] in
theorem owns_rows {hr : ∀ a, (Rect.unit (s := ⟨2, ![R, C]⟩) off ![n, C] inb).stride a = 1}
    (f : (m.slice (Rect.unit (s := ⟨2, ![R, C]⟩) off ![n, C] inb) hr).view.ty.Contents (Elt F))
    (hf : ∀ j : (⟨2, ![n, C]⟩ : Shape).Idx, (m.slice (Rect.unit (s := ⟨2, ![R, C]⟩) off ![n, C] inb) hr).view.read (Elt F) f j = B (o + (j 0).val) (j 1).val) :
    ((m.slice (Rect.unit (s := ⟨2, ![R, C]⟩) off ![n, C] inb) hr).view.loc (c : Thread nD τ)
        ↦[(m.slice (Rect.unit (s := ⟨2, ![R, C]⟩) off ![n, C] inb) hr).view.set]{fullShare} f)
      ⊢ (Rows c m o (o + n) B : sProp 𝕄) := by
  unfold Rows
  iintro H
  iexists f
  isplitr
  · ipureintro
    intro x hx
    rw [← unit_set hoff inb, ← Rect.map_emb_univ, Finset.mem_map] at hx
    obtain ⟨j, -, rfl⟩ := hx
    rw [(unit_idx hoff (inb := inb) j).1, (unit_idx hoff (inb := inb) j).2]
    exact hf j
  · rw [← unit_set hoff inb]
    rw [show (m.slice (Rect.unit (s := ⟨2, ![R, C]⟩) off ![n, C] inb) hr).view.set
      = m.view.setOn (Rect.unit (s := ⟨2, ![R, C]⟩) off ![n, C] inb).set from m.view.set_slice _]
    iexact H

include hoff in
omit [FloatOps F] in
theorem load_subset (h₁ : lo ≤ o) (h₂ : o + n ≤ hi) :
    m.view.setOn (Rect.unit (s := ⟨2, ![R, C]⟩) off ![n, C] inb).toLoadRect.set ⊆ m.view.setOn (band R C lo hi) := by
  refine Finset.map_subset_map.mpr fun x hx => ?_
  have hx' : x ∈ (Rect.unit (s := ⟨2, ![R, C]⟩) off ![n, C] inb).set := hx
  rw [unit_set hoff inb, mem_band] at hx'
  rw [mem_band]; omega

include hoff in
omit [FloatOps F] in
theorem store_subset : (m.access (Rect.unit (s := ⟨2, ![R, C]⟩) off ![n, C] inb)).setOn Finset.univ ⊆ m.view.setOn (band R C o (o + n)) := by
  rw [← unit_set hoff inb]; exact Memref.setOn_access_subset_setOn _ _ _

include hoff in
/-- A load of rows held. -/
theorem rows_load {α : Type} {Q : α → sProp 𝕄} {hl : m.view.LoadsAt (Rect.unit (s := ⟨2, ![R, C]⟩) off ![n, C] inb).toLoadRect}
    {kk : ((⟨2, ![n, C]⟩ : Shape).Idx → Elt F e) → Prog (TpuEff nD τ sig (Elt F) Λ₀ .tc) α} (h₁ : lo ≤ o) (h₂ : o + n ≤ hi) :
    Rows c m lo hi B ⊢ iprop((Rows c m lo hi B -∗ wp frame (wpE (defs₀ (F := F)) 𝒱₀ (c : Thread nD τ) none) Set.univ (kk (fun j => B (o + (j 0).val) (j 1).val)) Q)
      -∗ wp frame (wpE (defs₀ (F := F)) 𝒱₀ (c : Thread nD τ) none) Set.univ (.op (.load m (Rect.unit (s := ⟨2, ![R, C]⟩) off ![n, C] inb).toLoadRect hl) kk) Q) := by
  have hset := unit_set hoff inb
  unfold Rows
  iintro ⟨%f, %hf, H⟩ Hk
  have hval : m.view.readAt (Elt F) (Rect.unit (s := ⟨2, ![R, C]⟩) off ![n, C] inb).toLoadRect f = fun j => B (o + (j 0).val) (j 1).val := by
    funext j
    have h := hf ((Rect.unit (s := ⟨2, ![R, C]⟩) off ![n, C] inb).emb j) (by
      have := emb_mem_set (Rect.unit (s := ⟨2, ![R, C]⟩) off ![n, C] inb) j
      rw [hset, mem_band] at this
      rw [mem_band]; omega)
    rw [(unit_idx hoff (inb := inb) j).1, (unit_idx hoff (inb := inb) j).2] at h
    exact h
  iapply (wp_load 𝒱₀ (c : Thread nD τ) none Set.univ (m := m) (load_subset hoff h₁ h₂)) $$ H
  iintro H
  rw [hval]
  iapply Hk
  iexists f; isplitr
  · ipureintro; exact hf
  · iexact H

include hoff in
/-- A load of rows held at any contents. -/
theorem junk_load {α : Type} {Q : α → sProp 𝕄} {hl : m.view.LoadsAt (Rect.unit (s := ⟨2, ![R, C]⟩) off ![n, C] inb).toLoadRect}
    {kk : ((⟨2, ![n, C]⟩ : Shape).Idx → Elt F e) → Prog (TpuEff nD τ sig (Elt F) Λ₀ .tc) α} (h₁ : lo ≤ o) (h₂ : o + n ≤ hi) :
    Junk c m lo hi ⊢ iprop((∀ v, Junk c m lo hi -∗ wp frame (wpE (defs₀ (F := F)) 𝒱₀ (c : Thread nD τ) none) Set.univ (kk v) Q)
      -∗ wp frame (wpE (defs₀ (F := F)) 𝒱₀ (c : Thread nD τ) none) Set.univ (.op (.load m (Rect.unit (s := ⟨2, ![R, C]⟩) off ![n, C] inb).toLoadRect hl) kk) Q) := by
  have hset := unit_set hoff inb
  unfold Junk
  iintro ⟨%f, H⟩ Hk
  iapply (wp_load 𝒱₀ (c : Thread nD τ) none Set.univ (m := m) (load_subset hoff h₁ h₂)) $$ H
  iintro H
  iapply Hk
  iexists f; iexact H

include hoff in
/-- A store over exactly the rows held. -/
theorem junk_store {α : Type} {Q : α → sProp 𝕄} {w : (⟨2, ![n, C]⟩ : Shape).Idx → Elt F e}
    {hx : (m.access (Rect.unit (s := ⟨2, ![R, C]⟩) off ![n, C] inb)).Stores Finset.univ} {hm : Finset.univ = Finset.univ ∨ ∀ a, (Rect.unit (s := ⟨2, ![R, C]⟩) off ![n, C] inb).stride a = 1}
    {kk : PUnit → Prog (TpuEff nD τ sig (Elt F) Λ₀ .tc) α} (hw : ∀ j, w j = B (o + (j 0).val) (j 1).val) :
    (Junk c m o (o + n) : sProp 𝕄) ⊢ iprop((Rows c m o (o + n) B -∗ wp frame (wpE (defs₀ (F := F)) 𝒱₀ (c : Thread nD τ) none) Set.univ (kk ⟨⟩) Q)
      -∗ wp frame (wpE (defs₀ (F := F)) 𝒱₀ (c : Thread nD τ) none) Set.univ (.op (.store m (Rect.unit (s := ⟨2, ![R, C]⟩) off ![n, C] inb) w Finset.univ hx hm) kk) Q) := by
  have hset := unit_set hoff inb
  unfold Junk Rows
  iintro ⟨%f, H⟩ Hk
  iapply (wp_store 𝒱₀ (c : Thread nD τ) none Set.univ (m := m) (r := Rect.unit (s := ⟨2, ![R, C]⟩) off ![n, C] inb) (Mk := Finset.univ) (store_subset hoff)) $$ H
  iintro H
  iapply Hk
  iexists _
  isplitr
  rotate_left
  · iexact H
  · ipureintro
    intro x hx
    rw [← hset, ← Rect.map_emb_univ, Finset.mem_map] at hx
    obtain ⟨j, -, rfl⟩ := hx
    rw [(unit_idx hoff (inb := inb) j).1, (unit_idx hoff (inb := inb) j).2, ← hw j]
    exact View.read_slice_write_emb _ _ _ (Finset.mem_univ j)

end Access

end

end Cert.KernelIdeal.Run
-- ==== Proof.Contents.lean ====
/-
# The partial sums, as functions of row and column

`B0` is a device's product tile, `B1` and `B2` the sums after the first and the second exchange, `outV` the result. Each
sum rounds to the sixteen-bit format after an addition in the thirty-two-bit one, as the kernel does.
-/
module

public import proofs.«01_k».proof.Proof.Rows
public import Idealize.ShloMosaic.Lib.Pipeline.Value

@[expose] public section

set_option maxRecDepth 16384

noncomputable section

namespace Cert.KernelIdeal.Run

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Buffers, by column group -/

abbrev xM : Memref sig .tc .vmem S4096x512 .i8 := Memref.whole cc0_stg0_0
abbrev wM : Memref sig .tc .vmem S512x2048 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S512x2048 .f32 := Memref.whole cc0_stg4_0

/-- Columns of group `g`, and its first column. -/
@[reducible] def Wd : Fin 3 → ℕ | 0 => 640 | 1 => 640 | 2 => 768
@[reducible] def c0 : Fin 3 → ℕ | 0 => 0 | 1 => 640 | 2 => 1280
theorem Wd_pos (g : Fin 3) : 0 < Wd g := by revert g; decide

@[reducible] def bufM : (g : Fin 3) → Memref sig .tc .vmem ⟨2, ![4096, Wd g]⟩ .bf16
  | 0 => Memref.whole cc0_scratch0 | 1 => Memref.whole cc0_scratch1 | 2 => Memref.whole cc0_scratch2
@[reducible] def rcvM : (g : Fin 3) → Memref sig .tc .vmem ⟨2, ![3584, Wd g]⟩ .bf16
  | 0 => Memref.whole cc0_scratch3 | 1 => Memref.whole cc0_scratch4 | 2 => Memref.whole cc0_scratch5

/-! ## Contents -/

/-- The index at a row and a column, each wrapped into range. -/
def ixm (R C : ℕ) (hR : 0 < R) (hC : 0 < C) (r q : ℕ) : (⟨2, ![R, C]⟩ : Shape).Idx := fun
  | 0 => ⟨r % R, Nat.mod_lt _ hR⟩
  | 1 => ⟨q % C, Nat.mod_lt _ hC⟩

theorem ixm_self {R C : ℕ} {hR : 0 < R} {hC : 0 < C} (x : (⟨2, ![R, C]⟩ : Shape).Idx) : ixm R C hR hC (x 0).val (x 1).val = x := by
  funext a
  match a with
  | 0 => exact Fin.ext (Nat.mod_eq_of_lt (x 0).isLt)
  | 1 => exact Fin.ext (Nat.mod_eq_of_lt (x 1).isLt)

def xC (c : Dev nD) : S4096x512.Idx → Elt F .i8 :=
  (win0_0.blk (0 : Fin 1)).view.read (Elt F) ((s₀ m ρ).mem ((c : Thread nD τ).loc main_arg0))
def wC (c : Dev nD) : S512x2048.Idx → Elt F .i8 :=
  (win0_1.blk (0 : Fin 1)).view.read (Elt F) ((s₀ m ρ).mem ((c : Thread nD τ).loc main_arg1))
def sxC (c : Dev nD) : S1.Idx → Elt F .f32 :=
  (win0_2.blk (0 : Fin 1)).view.read (Elt F) ((s₀ m ρ).mem ((c : Thread nD τ).loc main_arg2))
def swC (c : Dev nD) : S1.Idx → Elt F .f32 :=
  (win0_3.blk (0 : Fin 1)).view.read (Elt F) ((s₀ m ρ).mem ((c : Thread nD τ).loc main_arg3))

/-- Rows of `x` that feed slot `s` of group `g`; columns of `w` of group `g`. -/
def xRows (c : Dev nD) (g : Fin 3) (s : ℕ) : S512x512.Idx → Elt F .i8 :=
  fun j => xC m ρ c (ixm 4096 512 (by decide) (by decide) (512 * chunk g s + (j 0).val) (j 1).val)
def wCols (c : Dev nD) (g : Fin 3) : (⟨2, ![512, Wd g]⟩ : Shape).Idx → Elt F .i8 :=
  fun j => wC m ρ c (ixm 512 2048 (by decide) (by decide) (j 0).val (c0 g + (j 1).val))

/-- One product tile of group `g`. -/
def tile : (g : Fin 3) → (S512x512.Idx → Elt F .i8) → ((⟨2, ![512, Wd g]⟩ : Shape).Idx → Elt F .i8) → ((⟨2, ![512, Wd g]⟩ : Shape).Idx → Elt F .bf16)
  | 0 => k0_pay6 | 1 => k0_pay6 | 2 => k0_pay1

/-- Two sixteen-bit numbers added wide and rounded; the last sum, scaled and cut at zero. -/
def accS (a b : Elt F .bf16) : Elt F .bf16 := k0_pay35 (F := F) (fun _ => a) (fun _ => b) (ixm 512 640 (by decide) (by decide) 0 0)
def outS (s : Elt F .f32) (a b : Elt F .bf16) : Elt F .f32 := k0_pay58 (F := F) s (fun _ => a) (fun _ => b) (ixm 128 640 (by decide) (by decide) 0 0)

def B0 (g : Fin 3) (c : Dev nD) (r q : ℕ) : Elt F .bf16 :=
  tile g (xRows m ρ c g (r / 512)) (wCols m ρ c g) (ixm 512 (Wd g) (by decide) (Wd_pos g) r q)
def B1 (g : Fin 3) (c : Dev nD) (r q : ℕ) : Elt F .bf16 := accS (B0 m ρ g c r q) (B0 m ρ g (nbr (ord g 0) c) r q)
def B2 (g : Fin 3) (c : Dev nD) (r q : ℕ) : Elt F .bf16 := accS (B1 m ρ g c r q) (B1 m ρ g (nbr (ord g 1) c) r q)

/-- The partial sums before stage `k`. -/
def Bk (g k : Fin 3) (c : Dev nD) : ℕ → ℕ → Elt F .bf16 := match k with
  | 0 => B0 m ρ g c
  | 1 => B1 m ρ g c
  | 2 => B2 m ρ g c

/-- What transfer `i` of group `g` brings device `c`, by row of the landing buffer. -/
def recvB (g : Fin 3) (i : Fin 10) (c : Dev nD) (r q : ℕ) : Elt F .bf16 :=
  Bk m ρ g (kOf i) (peer g i c) (dstRow g i c + (r - rOf i)) q

/-- The one index of a one-element axis. -/
def i1 : S1.Idx := fun | 0 => ⟨0, by decide⟩

def scale (c : Dev nD) : Elt F .f32 := k0_pay34 (F := F) (sxC m ρ c i1) (swC m ρ c i1)

/-- The group of a column. -/
def grpOf (q : ℕ) : Fin 3 := if q < 640 then 0 else if q < 1280 then 1 else 2

def outV (c : Dev nD) (r q : ℕ) : Elt F .f32 :=
  outS (scale m ρ c) (B2 m ρ (grpOf q) c (own (grpOf q) 2 c + r) (q - c0 (grpOf q)))
    (B2 m ρ (grpOf q) (nbr (ord (grpOf q) 2) c) (own (grpOf q) 2 c + r) (q - c0 (grpOf q)))

def outC (c : Dev nD) : S512x2048.Idx → Elt F .f32 := fun j => outV m ρ c (j 0).val (j 1).val

/-- The kernel's sums, element by element, at each of the shapes it adds at. -/
theorem pay35_apply (a b : Vec F S512x640 .bf16) (j : S512x640.Idx) : k0_pay35 a b j = accS (a j) (b j) := by
  unfold accS k0_pay35; simp only [shapeCast_self]; rfl
theorem pay37_apply (a b : Vec F S512x768 .bf16) (j : S512x768.Idx) : k0_pay37 a b j = accS (a j) (b j) := by
  unfold accS k0_pay35 k0_pay37; simp only [shapeCast_self]; rfl
theorem pay58_apply (s : Elt F .f32) (a b : Vec F S128x640 .bf16) (j : S128x640.Idx) : k0_pay58 s a b j = outS s (a j) (b j) := rfl
theorem pay59_apply (s : Elt F .f32) (a b : Vec F S128x768 .bf16) (j : S128x768.Idx) : k0_pay59 s a b j = outS s (a j) (b j) := rfl

end Cert.KernelIdeal.Run
-- ==== Proof.Sched.lean ====
/-
# The protocol

Every device signals its three neighbours once, on a semaphore that all kernels share, and waits for three: a signal
along an axis hands over the sender's landing rows for the transfers along that axis. Each of the thirty transfers has
a send semaphore, which gives back the rows sent, and a receive semaphore, which hands over the rows landed.
-/
module

public import proofs.«01_k».proof.Proof.Contents

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and cells -/

/-- A transfer's semaphore: whether the receiver's, the group, the transfer. -/
abbrev XI : Type := Bool × Fin 3 × Fin 10

set_option backward.proofsInPublic true in
def semIx (t : XI) : DmaSem sig :=
  ⟨5 + (if t.1 then 36 else 0) + 12 * t.2.1.val + 4 * (kOf t.2.2).val + sOf t.2.2, by revert t; decide⟩

theorem semIx_inj : ∀ t t' : XI, semIx t = semIx t' → t = t' := by decide +kernel

abbrev sendQ (g : Fin 3) (i : Fin 10) : DmaSem sig := semIx (false, g, i)
abbrev recvQ (g : Fin 3) (i : Fin 10) : DmaSem sig := semIx (true, g, i)

/-- The transfer a semaphore belongs to. -/
def decode (q : DmaSem sig) : Option XI := if h : ∃ t, semIx t = q then some h.choose else none
theorem decode_semIx (t : XI) : decode (semIx t) = some t := by
  have h : ∃ t', semIx t' = semIx t := ⟨t, rfl⟩
  unfold decode; rw [dif_pos h]; exact congrArg some (semIx_inj _ _ h.choose_spec)

/-- The semaphore all kernels share. -/
abbrev barS : Sem sig := (SemArray.scalar (sig.barrier 0 rfl) : Sems sig S_).sem

abbrev barCell (c : Dev nD) : GSem nD τ sig := ((c : Thread nD τ), .reg barS)
abbrev xCell (c : Dev nD) (t : XI) : GSem nD τ sig := ((c : Thread nD τ), .dma (semIx t))
abbrev sendCell (c : Dev nD) (g : Fin 3) (i : Fin 10) : GSem nD τ sig := xCell c (false, g, i)
abbrev recvCell (c : Dev nD) (g : Fin 3) (i : Fin 10) : GSem nD τ sig := xCell c (true, g, i)

/-- A device's cells: the shared semaphore's and the transfers'. -/
abbrev CI : Type := Option XI
def kcell (ck : Dev nD × CI) : GSem nD τ sig := match ck.2 with
  | none => barCell ck.1
  | some t => xCell ck.1 t

/-! ## Transfers -/

theorem rect_inb {R C o n : ℕ} (h : o + n ≤ R) : ∀ a, (![o, 0] : Fin 2 → ℕ) a + (![n, C] : Fin 2 → ℕ) a ≤ (![R, C] : Fin 2 → ℕ) a := by
  intro a
  match a with
  | 0 => exact h
  | 1 => exact Nat.le_of_eq (Nat.zero_add C)

/-- Where transfer `i` of group `g` lands. -/
abbrev rcvSl (g : Fin 3) (i : Fin 10) : Memref sig .tc .vmem ⟨2, ![szOf i, Wd g]⟩ .bf16 :=
  (rcvM g).slice (Rect.unit (s := ⟨2, ![3584, Wd g]⟩) ![rOf i, 0] ![szOf i, Wd g] (rect_inb (rOf_le i))) (fun _ => rfl)

/-- What transfer `i` of group `g` credits. -/
def NN (g : Fin 3) (i : Fin 10) : ℕ := (rcvSl g i).view.dmaCredit
theorem szOf_pos (i : Fin 10) : 0 < szOf i := by revert i; decide
theorem NN_pos (g : Fin 3) (i : Fin 10) : 0 < NN g i := View.dmaCredit_pos _ (by
  have : ∀ a b : ℕ, 0 < a → 0 < b → 0 < (⟨2, ![a, b]⟩ : Shape).numel := fun a b ha hb => by
    simp [Shape.numel, Fin.prod_univ_two, ha, hb]
  exact this _ _ (szOf_pos i) (Wd_pos g))

/-- Rows of the landing buffer of transfer `i`, at any contents; the rows it was sent from. -/
abbrev landJ (c : Dev nD) (g : Fin 3) (i : Fin 10) : sProp 𝕄 := Junk (F := F) c (rcvM g) (rOf i) (rOf i + szOf i)
abbrev landR (c : Dev nD) (g : Fin 3) (i : Fin 10) : sProp 𝕄 := Rows c (rcvM g) (rOf i) (rOf i + szOf i) (recvB m ρ g i c)
abbrev srcJ (c : Dev nD) (g : Fin 3) (i : Fin 10) : sProp 𝕄 := Junk (F := F) c (bufM g) (srcRow g i c) (srcRow g i c + szOf i)

/-- The transfers of a group along axis `a`. -/
def alongs (a : Fin 3) : Finset (Fin 3 × Fin 10) := Finset.univ.filter fun t => ord t.1 (kOf t.2) = a

/-- What a signal along axis `a` hands device `c`: its neighbour's landing rows for the transfers along that axis. -/
def barPay (c : Dev nD) (a : Fin 3) : sProp 𝕄 := bigSep (alongs a) fun t => landJ (peer t.1 t.2 c) t.1 t.2

def xPay (c : Dev nD) : XI → sProp 𝕄
  | (false, g, i) => srcJ c g i
  | (true, g, i) => landR m ρ c g i

omit [FloatOps F] in
instance barPay_storable (c : Dev nD) (a : Fin 3) : BI.Storable (upEmb : UEmb _ 𝕄) (barPay (F := F) c a) := by unfold barPay; infer_instance
instance xPay_storable (c : Dev nD) (t : XI) : BI.Storable (upEmb : UEmb _ 𝕄) (xPay (F := F) m ρ c t) := by
  obtain ⟨b, g, i⟩ := t
  cases b
  · show BI.Storable _ (srcJ c g i); infer_instance
  · show BI.Storable _ (landR m ρ c g i); infer_instance

/-! ## The schedule -/

def dutiesOf : SemLoc sig → Finset (Fin 3)
  | .reg s => if s = barS then Finset.univ else ∅
  | .dma q => if (decode q).isSome then {0} else ∅
def amountOf : SemLoc sig → ℕ
  | .reg _ => 1
  | .dma q => match decode q with
    | some t => NN t.2.1 t.2.2
    | none => 1
def payOf (c : Dev nD) (a : Fin 3) : SemLoc sig → sProp 𝕄
  | .reg _ => barPay c a
  | .dma q => match decode q with
    | some t => xPay m ρ c t
    | none => iprop(emp)

theorem amountOf_pos (s : SemLoc sig) : 0 < amountOf s := by
  unfold amountOf
  split
  · exact Nat.one_pos
  · split
    · exact NN_pos _ _
    · exact Nat.one_pos

def Rd : Rounds.Schedule (GSem nD τ sig) (Fin 3) 𝕄 where
  duties g r := if r = 0 ∧ g.1.2 = .tc then dutiesOf g.2 else ∅
  unitless _ := False
  amount g _ _ := amountOf g.2
  payload g _ d := payOf m ρ g.1.1 d g.2
  amount_pos g _ _ _ := amountOf_pos g.2

instance Rd_payload_storable (g : GSem nD τ sig) (r : ℕ) (d : Fin 3) :
    BI.Storable (upEmb : UEmb _ 𝕄) ((Rd (F := F) m ρ).payload g r d) := by
  show BI.Storable upEmb (payOf m ρ g.1.1 d g.2)
  unfold payOf
  split
  · infer_instance
  · split <;> infer_instance

section Sched
variable (c : Dev nD)

theorem duties_bar : (Rd (F := F) m ρ).duties (barCell c) 0 = Finset.univ := by
  dsimp only [Rd]; rw [if_pos ⟨rfl, rfl⟩]; show (if barS = barS then (Finset.univ : Finset (Fin 3)) else ∅) = _; exact if_pos rfl
theorem duties_x (t : XI) : (Rd (F := F) m ρ).duties (xCell c t) 0 = {0} := by
  dsimp only [Rd]; rw [if_pos ⟨rfl, rfl⟩]
  show (if (decode (semIx t)).isSome then ({0} : Finset (Fin 3)) else ∅) = {0}
  rw [decode_semIx]; rfl
theorem duties_later (g : GSem nD τ sig) : ∀ r, 1 ≤ r → (Rd (F := F) m ρ).duties g r = ∅ :=
  fun r hr => by dsimp only [Rd]; rw [if_neg fun h => by omega]
theorem amount_bar (d : Fin 3) : (Rd (F := F) m ρ).amount (barCell c) 0 d = 1 := rfl
theorem amount_x (t : XI) (d : Fin 3) : (Rd (F := F) m ρ).amount (xCell c t) 0 d = NN t.2.1 t.2.2 := by
  show amountOf (.dma (semIx t)) = _
  unfold amountOf; simp only [decode_semIx]
theorem payload_bar (d : Fin 3) : (Rd (F := F) m ρ).payload (barCell c) 0 d = barPay c d := rfl
theorem payload_x (t : XI) (d : Fin 3) : (Rd (F := F) m ρ).payload (xCell c t) 0 d = xPay m ρ c t := by
  show payOf m ρ c d (.dma (semIx t)) = _
  unfold payOf; simp only [decode_semIx]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x (t : XI) : (Rd (F := F) m ρ).expect (xCell c t) 0 = NN t.2.1 t.2.2 := by
  unfold Schedule.expect Schedule.amountOf; rw [duties_x, Finset.sum_singleton, amount_x]

theorem rest_x (t : XI) : bigSep ((Rd (F := F) m ρ).duties (xCell c t) 0 \ ∅) (fun d => (Rd (F := F) m ρ).payload (xCell c t) 0 d) = xPay m ρ c t := by
  rw [Finset.sdiff_empty, duties_x, bigSep_singleton, payload_x]

/-- All three signals hand a device every landing region it sends into. -/
theorem rest_bar : bigSep ((Rd (F := F) m ρ).duties (barCell c) 0 \ ∅) (fun d => (Rd (F := F) m ρ).payload (barCell c) 0 d)
    = bigSep Finset.univ fun t : Fin 3 × Fin 10 => landJ (F := F) (peer t.1 t.2 c) t.1 t.2 := by
  rw [Finset.sdiff_empty, duties_bar]
  have h : (Finset.univ : Finset (Fin 3 × Fin 10)) = Finset.univ.biUnion alongs := by decide
  rw [h, bigSep_biUnion_eq _ _ _ fun a _ b _ hab => Finset.disjoint_left.mpr fun t ht ht' =>
    hab ((Finset.mem_filter.mp ht).2.symm.trans (Finset.mem_filter.mp ht').2)]
  rfl

end Sched

/-! ## What is owed, and the levels -/

/-- What transfer `i` of group `g` owes its receiver. -/
def oweT (c : Dev nD) (g : Fin 3) (i : Fin 10) : CellTallies nD τ sig Unit := tallyAt (recvCell (peer g i c) g i) () (NN g i)
/-- What a device owes for the transfers of a group from the `n`-th on. -/
def oweG (c : Dev nD) (g : Fin 3) (n : ℕ) : CellTallies nD τ sig Unit := ∑ i : Fin 10, if n ≤ i.val then oweT c g i else 0
def owed (c : Dev nD) (n : Fin 3 → ℕ) : CellTallies nD τ sig Unit := ∑ g : Fin 3, oweG c g (n g)

theorem oweG_step (c : Dev nD) (g : Fin 3) (i : Fin 10) : oweG c g i.val = oweG c g (i.val + 1) + oweT c g i := by
  unfold oweG
  rw [← Finset.add_sum_erase _ _ (Finset.mem_univ i), ← Finset.add_sum_erase (a := i) _ (fun j : Fin 10 => if i.val + 1 ≤ j.val then oweT c g j else 0) (Finset.mem_univ i)]
  rw [if_pos le_rfl, if_neg (by omega), zero_add, add_comm]
  refine congrArg (· + _) (Finset.sum_congr rfl fun j hj => ?_)
  have : j.val ≠ i.val := fun h => Finset.ne_of_mem_erase hj (Fin.ext h)
  by_cases h : i.val ≤ j.val
  · rw [if_pos h, if_pos (by omega)]
  · rw [if_neg h, if_neg (by omega)]

theorem owed_step (c : Dev nD) (n : Fin 3 → ℕ) (g : Fin 3) (i : Fin 10) (h : n g = i.val) :
    owed c n = owed c (Function.update n g (n g + 1)) + tallyAt (recvCell (peer g i c) g i) () (NN g i) := by
  unfold owed
  rw [← Finset.add_sum_erase _ _ (Finset.mem_univ g), ← Finset.add_sum_erase (a := g) _ (fun j => oweG c j (Function.update n g (n g + 1) j)) (Finset.mem_univ g)]
  rw [Function.update_self, h, oweG_step, add_right_comm]
  refine congrArg (· + _) (congrArg (_ + ·) (Finset.sum_congr rfl fun j hj => ?_))
  rw [Function.update_of_ne (Finset.ne_of_mem_erase hj)]

/-- A device owes only transfers still to be made. -/
theorem owed_pos {c : Dev nD} {n : Fin 3 → ℕ} {γ : GSem nD τ sig} {u : Unit} (h : 0 < owed c n γ u) :
    ∃ g i, n g ≤ i.val ∧ γ = recvCell (peer g i c) g i := by
  unfold owed oweG at h
  rw [Finset.sum_apply, Finsupp.finset_sum_apply] at h
  obtain ⟨g, -, hg⟩ := Finset.exists_ne_zero_of_sum_ne_zero (Nat.pos_iff_ne_zero.mp h)
  rw [Finset.sum_apply, Finsupp.finset_sum_apply] at hg
  obtain ⟨i, -, hi⟩ := Finset.exists_ne_zero_of_sum_ne_zero hg
  refine ⟨g, i, ?_⟩
  by_cases hn : n g ≤ i.val
  · refine ⟨hn, ?_⟩
    rw [if_pos hn] at hi
    unfold oweT at hi
    rw [tallyAt_apply] at hi
    by_contra hne
    rw [if_neg (fun h => hne h.1)] at hi
    exact hi rfl
  · rw [if_neg hn] at hi; exact absurd rfl hi

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The shared semaphore at 1, a receive semaphore above it by its stage, everything else at 0. -/
def lvS : SemLoc sig → ℕ
  | .reg _ => 1
  | .dma q => match decode q with
    | some (true, _, i) => 2 + (kOf i).val
    | _ => 0
def lv (g : GSem nD τ sig) (_ : Unit) : ℕ := lvS g.2

theorem lv_recv (c : Dev nD) (g : Fin 3) (i : Fin 10) (u : Unit) : lv (recvCell c g i) u = 2 + (kOf i).val := by
  show lvS (.dma (semIx (true, g, i))) = _
  unfold lvS; simp only [decode_semIx]

/-- A wait on a receive semaphore of a stage before all that is owed. -/
theorem mayWait_recv (c : Dev nD) (g : Fin 3) (i : Fin 10) (n : Fin 3 → ℕ) (h : ∀ g' i', n g' ≤ i'.val → (kOf i).val < (kOf i').val) :
    (levAts L lv : sProp 𝕄) ⊢ MayWait (c : Thread nD τ) (.dma (recvQ g i)) () (owed c n) :=
  MayOwe.of_cut (L := L) (lev := lv) (2 + (kOf i).val) (fun p hp => by rw [Finset.mem_singleton.mp hp, L_tc]; exact Finset.mem_singleton_self _)
    (fun γ u hg => by obtain ⟨g', i', -, rfl⟩ := owed_pos hg; exact Finset.mem_singleton_self _)
    (fun p hp => by rw [Finset.mem_singleton.mp hp]; exact le_of_eq (lv_recv c g i ()))
    (fun γ u hg => by
      obtain ⟨g', i', hn, rfl⟩ := owed_pos hg
      rw [lv_recv]; have := h g' i' hn; omega)

/-- The wait on the shared semaphore: only receive semaphores are owed. -/
theorem mayWait_bar (c : Dev nD) (n : Fin 3 → ℕ) :
    (levAts L lv : sProp 𝕄) ⊢ MayWait (c : Thread nD τ) (.reg barS) () (owed c n) :=
  MayOwe.of_cut (L := L) (lev := lv) 1 (fun p hp => by rw [Finset.mem_singleton.mp hp, L_tc]; exact Finset.mem_singleton_self _)
    (fun γ u hg => by obtain ⟨g', i', -, rfl⟩ := owed_pos hg; exact Finset.mem_singleton_self _)
    (fun p hp => by rw [Finset.mem_singleton.mp hp]; exact le_of_eq rfl)
    (fun γ u hg => by
      obtain ⟨g', i', hn, rfl⟩ := owed_pos hg
      rw [lv_recv]; omega)

end Cert.KernelIdeal.Run
-- ==== Proof.State.lean ====
/-
# What a device holds between two steps

Each column group goes through the same phases: fill the half to be sent, send it, fill the half kept, then, stage by
stage, add what arrived and send half of it on. Each of its ten transfers is sent, waited for and received once.
-/
module

public import proofs.«01_k».proof.Proof.Sched

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Phases -/

/-- Rows a group keeps, or sends, in stage `k`; rows of one of its transfers. -/
@[reducible] def hk : Fin 3 → ℕ | 0 => 2048 | 1 => 1024 | 2 => 512
@[reducible] def ck : Fin 3 → ℕ | 0 => 512 | 1 => 512 | 2 => 128

inductive Ph where
  /-- filling the half to be sent, `n` tiles done -/
  | fill (n : ℕ)
  /-- sending in stage `k`, `n` transfers started -/
  | send (k : Fin 3) (n : ℕ)
  /-- filling the half kept -/
  | keep (n : ℕ)
  /-- adding in stage `k`, `n` pieces done -/
  | acc (k : Fin 3) (n : ℕ)

section
variable (c : Dev nD) (g : Fin 3)

/-- Rows `lo` to `hi` of the group's partial sums, at the stage-`k` values or at any. -/
def Seg (lo hi : ℕ) : Option (Fin 3) → sProp 𝕄
  | none => Junk c (bufM g) lo hi
  | some k => Rows c (bufM g) lo hi (Bk m ρ g k c)

/-- `d` of `n` rows from `lo` on at new values, the rest at old ones. -/
def Adv (lo d n : ℕ) (new old : Option (Fin 3)) : sProp 𝕄 := iprop(Seg m ρ c g lo (lo + d) new ∗ Seg m ρ c g (lo + d) (lo + n) old)

/-- What is held of the half kept while the other is sent. -/
@[reducible] def kept : Fin 3 → Option (Fin 3) | 0 => none | 1 => some 1 | 2 => some 2

def phase : Ph → sProp 𝕄
  | .fill n => iprop(Adv m ρ c g (snd g 0 c) (512 * n) 2048 (some 0) none ∗ Seg m ρ c g (own g 0 c) (own g 0 c + 2048) none)
  | .send k n => iprop(Seg m ρ c g (snd g k c + ck k * n) (snd g k c + hk k) (some k) ∗ Seg m ρ c g (own g k c) (own g k c + hk k) (kept k))
  | .keep n => Adv m ρ c g (own g 0 c) (512 * n) 2048 (some 0) none
  | .acc k n => Adv m ρ c g (own g k c) (512 * n) (hk k) (some (k + 1)) (some k)

/-! ## Transfers -/

/-- The sender's side of a transfer not yet started: the tokens it pays with, and the rows it lands in. -/
def toSend (i : Fin 10) : sProp 𝕄 :=
  iprop(dutyTok ER (sendCell c g i) 0 0 ∗ dutyTok ER (recvCell (peer g i c) g i) 0 0 ∗ landJ (peer g i c) g i)

def sendSt (i : Fin 10) (sent waited : Bool) : sProp 𝕄 :=
  iprop((if sent then emp else toSend c g i)
    ∗ (if waited then iprop(semVal (sendCell c g i) 0 ∗ srcJ c g i)
       else iprop(atPos ER (sendCell c g i) 0 ∅ 0 ∗ (if sent then cred (tallyAt (sendCell c g i) () (NN g i)) else emp))))

def recvSt (i : Fin 10) (got : Bool) : sProp 𝕄 :=
  if got then iprop(semVal (recvCell c g i) 0 ∗ landR m ρ c g i)
  else iprop(atPos ER (recvCell c g i) 0 ∅ 0 ∗ cred (tallyAt (recvCell c g i) () (NN g i)))

/-- Where a group is: its phase, and how many transfers are started, received, and known to have left. -/
structure GS where
  ph : Ph
  ns : ℕ
  nr : ℕ
  nw : ℕ

def grp (t : GS) : sProp 𝕄 :=
  iprop(phase m ρ c g t.ph
    ∗ (bigSep Finset.univ fun i : Fin 10 => sendSt c g i (decide (i.val < t.ns)) (decide (i.val < t.nw)))
    ∗ (bigSep Finset.univ fun i : Fin 10 => recvSt m ρ c g i (decide (i.val < t.nr))))

end

/-! ## The whole state -/

structure S where
  a : GS
  b : GS
  d : GS
  o : ℕ

@[reducible] def S.get (s : S) : Fin 3 → GS | 0 => s.a | 1 => s.b | 2 => s.d
@[reducible] def S.upd (s : S) (g : Fin 3) (t : GS) : S := match g with
  | 0 => { s with a := t } | 1 => { s with b := t } | 2 => { s with d := t }
theorem S.get_upd (s : S) (g : Fin 3) (t : GS) : (s.upd g t).get g = t := by revert g; intro g; fin_cases g <;> rfl
theorem S.get_upd_ne (s : S) (g g' : Fin 3) (t : GS) (h : g' ≠ g) : (s.upd g t).get g' = s.get g' := by
  fin_cases g <;> fin_cases g' <;> first | rfl | exact absurd rfl h
theorem S.o_upd (s : S) (g : Fin 3) (t : GS) : (s.upd g t).o = s.o := by fin_cases g <;> rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The tiles of the result written so far: three column groups to a band of 128 rows. -/
def Out (c : Dev nD) (n : ℕ) : sProp 𝕄 :=
  iprop(∃ f : Buf (Elt F) (((c : Dev nD) : Thread nD τ).loc cc0_stg4_0),
    ⌜∀ x : S512x2048.Idx, 3 * ((x 0).val / 128) + (grpOf (x 1).val).val < n → f x = outC m ρ c x⌝ ∗ (((c : Thread nD τ).loc cc0_stg4_0) ↦{fullShare} f))

variable (K : Dev nD × CI → ℕ)

/-- Every cell's invariant and that its one round has begun. -/
def recs : sProp 𝕄 :=
  iprop((bigSep Finset.univ fun ck : Dev nD × CI => cellInv ER (Rd m ρ) (K ck) (kcell ck))
    ∗ bigSep Finset.univ fun ck : Dev nD × CI => reached ER (kcell ck) 0)

instance recs_persistent : BI.Persistent (recs (F := F) m ρ K) := by unfold recs; infer_instance

theorem recs_inv (ck : Dev nD × CI) : recs m ρ K ⊢ (cellInv ER (Rd m ρ) (K ck) (kcell ck) : sProp 𝕄) := by
  unfold recs; exact (sep_elim_left ..).trans (bigSep_elim (Finset.mem_univ ck))
theorem recs_reached (ck : Dev nD × CI) : recs m ρ K ⊢ (reached ER (kcell ck) 0 : sProp 𝕄) := by
  unfold recs; exact (sep_elim_right ..).trans (bigSep_elim (Finset.mem_univ ck))

def base (c : Dev nD) (n : Fin 3 → ℕ) (o : ℕ) : sProp 𝕄 :=
  iprop(recs m ρ K ∗ levAts L lv ∗ (∃ W, owes (c : Thread nD τ) (owed c n) W)
    ∗ stg c cc0_stg0_0 (xC m ρ c) ∗ stg c cc0_stg1_0 (wC m ρ c) ∗ stg c cc0_stg2_0 (sxC m ρ c) ∗ stg c cc0_stg3_0 (swC m ρ c)
    ∗ Out m ρ c o)

@[reducible] def S.ns (s : S) : Fin 3 → ℕ := fun g => (s.get g).ns

def St (c : Dev nD) (s : S) : sProp 𝕄 :=
  iprop(base m ρ K c s.ns s.o ∗ bigSep Finset.univ fun g : Fin 3 => grp m ρ c g (s.get g))

/-! ## Steps -/

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- From state `s`, the program ends in state `s'` with a result satisfying `R`. -/
def Run (c : Dev nD) (s : S) {α : Type} (p : Prog (TpuEff nD τ sig (Elt F) Λ₀ .tc) α) (s' : S) (R : α → Prop) : Prop :=
  ∀ Q : α → sProp 𝕄, iprop(St m ρ K c s ∗ (∀ a, ⌜R a⌝ -∗ St m ρ K c s' -∗ Q a)) ⊢ wpc c p Q

variable {m ρ K}

theorem Run.bind {c : Dev nD} {s s' s'' : S} {α β : Type} {p : Prog (TpuEff nD τ sig (Elt F) Λ₀ .tc) α} {k : α → Prog (TpuEff nD τ sig (Elt F) Λ₀ .tc) β}
    {R : α → Prop} {R' : β → Prop} (h : Run m ρ K c s p s' R) (h' : ∀ a, R a → Run m ρ K c s' (k a) s'' R') : Run m ρ K c s (p >>= k) s'' R' := by
  intro Q
  show _ ⊢ wp _ _ _ _ _
  rw [wp_bind]
  iintro ⟨Hs, Hk⟩
  iapply (h _)
  isplitl [Hs]; · iexact Hs
  iintro %a %ha Hs
  iapply (h' a ha Q)
  isplitl [Hs] <;> iassumption

theorem Run.ret {c : Dev nD} {s : S} {α : Type} {a : α} {R : α → Prop} (h : R a) : Run m ρ K c s (pure a) s R := by
  intro Q
  show _ ⊢ wp _ _ _ (Prog.ret a) _
  rw [wp_ret]
  iintro ⟨Hs, Hk⟩
  imodintro
  iapply Hk $$ %a %h Hs

/-- A step that concerns the inputs, the result or what is owed, and not a group. -/
theorem Run.of_base {c : Dev nD} {s : S} (o' : ℕ) {α : Type} {p : Prog (TpuEff nD τ sig (Elt F) Λ₀ .tc) α} {R : α → Prop}
    (h : ∀ Q : α → sProp 𝕄, iprop(base m ρ K c s.ns s.o ∗ (∀ a, ⌜R a⌝ -∗ base m ρ K c s.ns o' -∗ Q a)) ⊢ wpc c p Q) :
    Run m ρ K c s p ⟨s.a, s.b, s.d, o'⟩ R := by
  intro Q
  unfold St
  iintro ⟨⟨Hb, Hg⟩, Hk⟩
  iapply (h Q)
  isplitl [Hb]; · iexact Hb
  iintro %a %ha Hb
  iapply Hk $$ %a %ha
  isplitl [Hb]; · iexact Hb
  have hg : (fun g : Fin 3 => grp m ρ c g ((⟨s.a, s.b, s.d, o'⟩ : S).get g)) = (fun g : Fin 3 => grp m ρ c g (s.get g)) := by
    funext g; fin_cases g <;> rfl
  rw [hg]
  iexact Hg

theorem S.ns_upd (s : S) (g : Fin 3) (t : GS) : (s.upd g t).ns = Function.update s.ns g t.ns := by
  funext g'
  by_cases h : g' = g
  · subst h; rw [Function.update_self]; unfold S.ns; rw [S.get_upd]
  · rw [Function.update_of_ne h]; unfold S.ns; rw [S.get_upd_ne _ _ _ _ h]

/-- A step that concerns one group. -/
theorem Run.of_grp {c : Dev nD} {s : S} (g : Fin 3) (t' : GS) {α : Type} {p : Prog (TpuEff nD τ sig (Elt F) Λ₀ .tc) α} {R : α → Prop}
    (h : ∀ Q : α → sProp 𝕄, iprop(base m ρ K c s.ns s.o ∗ grp m ρ c g (s.get g)
        ∗ (∀ a, ⌜R a⌝ -∗ base m ρ K c (Function.update s.ns g t'.ns) s.o -∗ grp m ρ c g t' -∗ Q a)) ⊢ wpc c p Q) :
    Run m ρ K c s p (s.upd g t') R := by
  intro Q
  unfold St
  rw [S.ns_upd, S.o_upd]
  iintro ⟨⟨Hb, Hg⟩, Hk⟩
  ihave H := (bigSep_univ_update (Φ := fun g : Fin 3 => grp m ρ c g (s.get g)) (Ψ := fun g' : Fin 3 => grp m ρ c g' ((s.upd g t').get g')) g
    (fun j hj => by rw [S.get_upd_ne _ _ _ _ hj])) $$ Hg
  icases H with ⟨Hg, Hr⟩
  iapply (h Q)
  isplitl [Hb]; · iexact Hb
  isplitl [Hg]; · iexact Hg
  iintro %a %ha Hb Hg
  iapply Hk $$ %a %ha
  isplitl [Hb]; · iexact Hb
  iapply Hr
  rw [S.get_upd]
  iexact Hg

/-- The same, what is owed unchanged. -/
theorem Run.of_phase {c : Dev nD} {s : S} (g : Fin 3) {ph : Ph} (hp : (s.get g).ph = ph) (ph' : Ph) {α : Type} {p : Prog (TpuEff nD τ sig (Elt F) Λ₀ .tc) α} {R : α → Prop}
    (h : ∀ Q : α → sProp 𝕄, iprop(phase m ρ c g ph ∗ (∀ a, ⌜R a⌝ -∗ phase m ρ c g ph' -∗ Q a)) ⊢ wpc c p Q) :
    Run m ρ K c s p (s.upd g { s.get g with ph := ph' }) R := by
  refine Run.of_grp g _ fun Q => ?_
  rw [show Function.update s.ns g ({ s.get g with ph := ph' } : GS).ns = s.ns from Function.update_eq_self g _]
  unfold grp
  rw [hp]
  iintro ⟨Hb, ⟨Hp, Hx⟩, Hk⟩
  iapply (h Q)
  isplitl [Hp]; · iexact Hp
  iintro %a %ha Hp
  iapply Hk $$ %a %ha Hb
  isplitl [Hp] <;> iassumption

/-- Phases may be changed in place. -/
theorem Run.turn {c : Dev nD} {s s' : S} (g : Fin 3) {ph : Ph} (hp : (s.get g).ph = ph) (ph' : Ph) (h : phase m ρ c g ph ⊢ phase m ρ c g ph')
    {α : Type} {p : Prog (TpuEff nD τ sig (Elt F) Λ₀ .tc) α} {R : α → Prop} (h' : Run m ρ K c (s.upd g { s.get g with ph := ph' }) p s' R) : Run m ρ K c s p s' R := by
  have h1 : Run m ρ K c s (pure ⟨⟩) (s.upd g { s.get g with ph := ph' }) (fun _ : PUnit => True) := Run.of_phase g hp ph' fun Q => by
    show _ ⊢ wp _ _ _ (Prog.ret _) _
    rw [wp_ret]
    iintro ⟨Hp, Hk⟩
    imodintro
    iapply Hk $$ %_ %trivial
    iapply h; iexact Hp
  exact Run.bind h1 fun _ _ => h'

end Cert.KernelIdeal.Run
-- ==== Proof.Steps.lean ====
/-
# The kernel's steps, one by one

Each lemma is one memory or communication step of the body at a group, a stage and a piece, whatever the operands'
spelling: what the step's offsets, semaphores and devices have to be is a hypothesis.
-/
module

public import proofs.«01_k».proof.Proof.State

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}
variable {c : Dev nD} {s : S}

/-! ## Inputs -/

theorem x_read (f : S4096x512.Idx → Elt F .i8) {off : Fin 2 → ℕ} {inb} (g : Fin 3) (n : ℕ) (hoff : off = ![512 * chunk g n, 0]) (hf : f = xC m ρ c) :
    xM.view.readAt (Elt F) (Rect.unit (s := S4096x512) off S512x512.size inb).toLoadRect f = xRows m ρ c g n := by
  subst hoff; subst hf
  funext j
  refine congrArg (xC m ρ c) (show (Rect.unit (s := S4096x512) ![512 * chunk g n, 0] S512x512.size inb).idx j = _ from ?_)
  rw [← ixm_self (hR := (by decide : 0 < 4096)) (hC := (by decide : 0 < 512)) ((Rect.unit (s := S4096x512) ![512 * chunk g n, 0] S512x512.size inb).idx j)]
  congr 1
  · show 512 * chunk g n + 1 * (j 0).val = _; omega
  · show 0 + 1 * (j 1).val = _; omega

theorem w_read (f : S512x2048.Idx → Elt F .i8) {off : Fin 2 → ℕ} (g : Fin 3) {inb} (hoff : off = ![0, c0 g]) (hf : f = wC m ρ c) :
    wM.view.readAt (Elt F) (Rect.unit (s := S512x2048) off ![512, Wd g] inb).toLoadRect f = wCols m ρ c g := by
  subst hoff; subst hf
  funext j
  refine congrArg (wC m ρ c) (show (Rect.unit (s := S512x2048) ![0, c0 g] ![512, Wd g] inb).idx j = _ from ?_)
  rw [← ixm_self (hR := (by decide : 0 < 512)) (hC := (by decide : 0 < 2048)) ((Rect.unit (s := S512x2048) ![0, c0 g] ![512, Wd g] inb).idx j)]
  congr 1
  · show 0 + 1 * (j 0).val = _; omega
  · show c0 g + 1 * (j 1).val = _; omega

theorem step_x {off : Fin 2 → ℕ} {inb} (g : Fin 3) (n : ℕ) (hoff : off = ![512 * chunk g n, 0])
    {hl : xM.view.LoadsAt (Rect.unit (s := S4096x512) off S512x512.size inb).toLoadRect} :
    Run m ρ K c s (Prog.lift (.load xM (Rect.unit (s := S4096x512) off S512x512.size inb).toLoadRect hl)) s (fun v => v = xRows m ρ c g n) := by
  refine Run.of_base s.o fun Q => ?_
  unfold base
  iintro ⟨⟨Hr, Hl, Ho, ⟨%f, %hf, Hx⟩, Hw⟩, Hk⟩
  iapply (wp_load 𝒱₀ (c : Thread nD τ) none Set.univ (m := xM) (Finset.subset_univ _)) $$ Hx
  iintro Hx
  rw [wp_ret]
  imodintro
  iapply Hk $$ %_ %(x_read f g n hoff hf)
  isplitl [Hr]; · iexact Hr
  isplitl [Hl]; · iexact Hl
  isplitl [Ho]; · iexact Ho
  isplitl [Hx]
  · iexists f; isplitr; · ipureintro; exact hf
    iexact Hx
  iexact Hw

theorem step_w {off : Fin 2 → ℕ} (g : Fin 3) {inb} (hoff : off = ![0, c0 g])
    {hl : wM.view.LoadsAt (Rect.unit (s := S512x2048) off ![512, Wd g] inb).toLoadRect} :
    Run m ρ K c s (Prog.lift (.load wM (Rect.unit (s := S512x2048) off ![512, Wd g] inb).toLoadRect hl)) s (fun v => v = wCols m ρ c g) := by
  refine Run.of_base s.o fun Q => ?_
  unfold base
  iintro ⟨⟨Hr, Hl, Ho, Hx, ⟨%f, %hf, Hw⟩, Hs⟩, Hk⟩
  iapply (wp_load 𝒱₀ (c : Thread nD τ) none Set.univ (m := wM) (Finset.subset_univ _)) $$ Hw
  iintro Hw
  rw [wp_ret]
  imodintro
  iapply Hk $$ %_ %(w_read f g hoff hf)
  isplitl [Hr]; · iexact Hr
  isplitl [Hl]; · iexact Hl
  isplitl [Ho]; · iexact Ho
  isplitl [Hx]; · iexact Hx
  isplitl [Hw]
  · iexists f; isplitr; · ipureintro; exact hf
    iexact Hw
  iexact Hs

theorem idx1 (x y : S1.Idx) : x = y := by
  funext a
  match a with
  | 0 => exact Fin.ext (by have := (x 0).isLt; have := (y 0).isLt; have h : S1.size 0 = 1 := rfl; omega)

theorem step_sx {x : S1.Idx} {hw} :
    Run m ρ K c s (smemLoadElt sxM (Rect.unit (s := S1) ![0] S1.size inb_S1_S1_0) hw x .ret) s (fun v => v = sxC m ρ c i1) := by
  refine Run.of_base s.o fun Q => ?_
  unfold base
  iintro ⟨⟨Hr, Hl, Ho, Hx, Hw, ⟨%f, %hf, Hs⟩, Hs'⟩, Hk⟩
  iapply (wp_smemLoadElt 𝒱₀ (c : Thread nD τ) none Set.univ (m := sxM) (r := Rect.unit (s := S1) ![0] S1.size inb_S1_S1_0) (f := f) (S := Finset.univ) (Finset.subset_univ _)) $$ Hs
  iintro Hs
  rw [wp_ret]
  imodintro
  iapply Hk $$ %((sxM.access (Rect.unit (s := S1) ![0] S1.size inb_S1_S1_0)).read (Elt F) f x) %(by subst hf; exact congrArg (sxC m ρ c) (idx1 _ _))
  isplitl [Hr]; · iexact Hr
  isplitl [Hl]; · iexact Hl
  isplitl [Ho]; · iexact Ho
  isplitl [Hx]; · iexact Hx
  isplitl [Hw]; · iexact Hw
  isplitl [Hs]
  · iexists f; isplitr; · ipureintro; exact hf
    iexact Hs
  iexact Hs'

theorem step_sw {x : S1.Idx} {hw} :
    Run m ρ K c s (smemLoadElt swM (Rect.unit (s := S1) ![0] S1.size inb_S1_S1_0) hw x .ret) s (fun v => v = swC m ρ c i1) := by
  refine Run.of_base s.o fun Q => ?_
  unfold base
  iintro ⟨⟨Hr, Hl, Ho, Hx, Hw, Hs', ⟨%f, %hf, Hs⟩, Hout⟩, Hk⟩
  iapply (wp_smemLoadElt 𝒱₀ (c : Thread nD τ) none Set.univ (m := swM) (r := Rect.unit (s := S1) ![0] S1.size inb_S1_S1_0) (f := f) (S := Finset.univ) (Finset.subset_univ _)) $$ Hs
  iintro Hs
  rw [wp_ret]
  imodintro
  iapply Hk $$ %((swM.access (Rect.unit (s := S1) ![0] S1.size inb_S1_S1_0)).read (Elt F) f x) %(by subst hf; exact congrArg (swC m ρ c) (idx1 _ _))
  isplitl [Hr]; · iexact Hr
  isplitl [Hl]; · iexact Hl
  isplitl [Ho]; · iexact Ho
  isplitl [Hx]; · iexact Hx
  isplitl [Hw]; · iexact Hw
  isplitl [Hs']; · iexact Hs'
  isplitl [Hs]
  · iexists f; isplitr; · ipureintro; exact hf
    iexact Hs
  iexact Hout

/-! ## The result -/

theorem mem_tile {g : Fin 3} {q n : ℕ} (hn : n = 3 * q + g.val) {off : Fin 2 → ℕ} (hoff : off = ![128 * q, c0 g]) {inb} (x : S512x2048.Idx) :
    3 * ((x 0).val / 128) + (grpOf (x 1).val).val < n + 1 →
      x ∈ (Rect.unit (s := S512x2048) off ![128, Wd g] inb).set ∨ 3 * ((x 0).val / 128) + (grpOf (x 1).val).val < n := by
  subst hoff
  intro h
  by_cases hlt : 3 * ((x 0).val / 128) + (grpOf (x 1).val).val < n
  · exact Or.inr hlt
  left
  have hx1 : (x 1).val < 2048 := (x 1).isLt
  have hg : (grpOf (x 1).val).val < 3 := (grpOf (x 1).val).isLt
  have hg' := g.isLt
  have hq : (x 0).val / 128 = q := by omega
  have hgg : grpOf (x 1).val = g := Fin.ext (by omega)
  rw [Rect.mem_set_unit]
  intro a
  match a with
  | 0 => show 128 * q ≤ (x 0).val ∧ (x 0).val < 128 * q + 128; omega
  | 1 =>
    show c0 g ≤ (x 1).val ∧ (x 1).val < c0 g + Wd g
    unfold grpOf at hgg
    split at hgg
    · subst hgg; show 0 ≤ _ ∧ _ < 0 + 640; omega
    · split at hgg
      · subst hgg; show 640 ≤ _ ∧ _ < 640 + 640; omega
      · subst hgg; show 1280 ≤ _ ∧ _ < 1280 + 768; omega

theorem step_outload {off : Fin 2 → ℕ} (g : Fin 3) {inb}
    {hl : oM.view.LoadsAt (Rect.unit (s := S512x2048) off ![128, Wd g] inb).toLoadRect} :
    Run m ρ K c s (Prog.lift (.load oM (Rect.unit (s := S512x2048) off ![128, Wd g] inb).toLoadRect hl)) s (fun _ => True) := by
  refine Run.of_base s.o fun Q => ?_
  unfold base Out
  iintro ⟨⟨Hr, Hl, Ho, Hx, Hw, Hs, Hs', ⟨%f, %hf, Hout⟩⟩, Hk⟩
  iapply (wp_load 𝒱₀ (c : Thread nD τ) none Set.univ (m := oM) (Finset.subset_univ _)) $$ Hout
  iintro Hout
  rw [wp_ret]
  imodintro
  iapply Hk $$ %_ %trivial
  isplitl [Hr]; · iexact Hr
  isplitl [Hl]; · iexact Hl
  isplitl [Ho]; · iexact Ho
  isplitl [Hx]; · iexact Hx
  isplitl [Hw]; · iexact Hw
  isplitl [Hs]; · iexact Hs
  isplitl [Hs']; · iexact Hs'
  iexists f; isplitr; · ipureintro; exact hf
  iexact Hout

theorem out_write (f : S512x2048.Idx → Elt F .f32) (g : Fin 3) (q n : ℕ) (hn : n = 3 * q + g.val) {off : Fin 2 → ℕ} (hoff : off = ![128 * q, c0 g]) {inb}
    (w : (⟨2, ![128, Wd g]⟩ : Shape).Idx → Elt F .f32) (hw : ∀ j, w j = outV m ρ c (128 * q + (j 0).val) (c0 g + (j 1).val))
    (hf : ∀ x : S512x2048.Idx, 3 * ((x 0).val / 128) + (grpOf (x 1).val).val < n → f x = outC m ρ c x) (x : S512x2048.Idx)
    (hx : 3 * ((x 0).val / 128) + (grpOf (x 1).val).val < n + 1) :
    ((oM.access (Rect.unit (s := S512x2048) off ![128, Wd g] inb)).write (Elt F) f w Finset.univ : S512x2048.Idx → Elt F .f32) x = outC m ρ c x := by
  by_cases hm : x ∈ (Rect.unit (s := S512x2048) off ![128, Wd g] inb).set
  · rw [← Rect.map_emb_univ, Finset.mem_map] at hm
    obtain ⟨j, -, rfl⟩ := hm
    refine (show _ = oM.view.read (Elt F) ((oM.access (Rect.unit (s := S512x2048) off ![128, Wd g] inb)).write (Elt F) f w Finset.univ) ((Rect.unit (s := S512x2048) off ![128, Wd g] inb).emb j) from rfl).trans ?_
    refine (View.read_slice_write_emb _ _ _ (Finset.mem_univ j)).trans ?_
    rw [hw j]
    subst hoff
    unfold outC
    congr 1
    · show _ = 128 * q + 1 * (j 0).val; omega
    · show _ = c0 g + 1 * (j 1).val; omega
  · have h' := (mem_tile hn hoff (inb := inb) x hx).resolve_left hm
    refine Eq.trans ?_ (hf x h')
    refine View.write_of_not_mem _ _ _ ?_
    intro h
    exact hm (by
      have := Memref.setOn_access_subset_setOn oM (Rect.unit (s := S512x2048) off ![128, Wd g] inb) Finset.univ h
      rw [View.setOn, Finset.mem_map] at this
      obtain ⟨y, hy, rfl⟩ := this
      exact hy)

theorem step_outstore {off : Fin 2 → ℕ} (g : Fin 3) (q : ℕ) {inb} (hn : s.o = 3 * q + g.val) (hoff : off = ![128 * q, c0 g])
    {w : (⟨2, ![128, Wd g]⟩ : Shape).Idx → Elt F .f32} (hw : ∀ j, w j = outV m ρ c (128 * q + (j 0).val) (c0 g + (j 1).val))
    {hx : (oM.access (Rect.unit (s := S512x2048) off ![128, Wd g] inb)).Stores Finset.univ} {hm} :
    Run m ρ K c s (Prog.lift (.store oM (Rect.unit (s := S512x2048) off ![128, Wd g] inb) w Finset.univ hx hm)) ⟨s.a, s.b, s.d, s.o + 1⟩ (fun _ => True) := by
  refine Run.of_base (s.o + 1) fun Q => ?_
  unfold base Out
  iintro ⟨⟨Hr, Hl, Ho, Hx, Hw, Hs, Hs', ⟨%f, %hf, Hout⟩⟩, Hk⟩
  iapply (wp_store 𝒱₀ (c : Thread nD τ) none Set.univ (m := oM) (r := Rect.unit (s := S512x2048) off ![128, Wd g] inb) (Mk := Finset.univ) (f := f) (S := Finset.univ) (Finset.subset_univ _)) $$ Hout
  iintro Hout
  rw [wp_ret]
  imodintro
  iapply Hk $$ %_ %trivial
  isplitl [Hr]; · iexact Hr
  isplitl [Hl]; · iexact Hl
  isplitl [Ho]; · iexact Ho
  isplitl [Hx]; · iexact Hx
  isplitl [Hw]; · iexact Hw
  isplitl [Hs]; · iexact Hs
  isplitl [Hs']; · iexact Hs'
  iexists _; isplitr
  rotate_left
  · iexact Hout
  · ipureintro; exact out_write f g q s.o hn hoff w hw hf

end Cert.KernelIdeal.Run
-- ==== Proof.Tiles.lean ====
/-
# Steps on the partial sums

Reading and storing tiles of a group's buffer, phase by phase, and how one phase becomes the next.
-/
module

public import proofs.«01_k».proof.Proof.Steps

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}
variable {c : Dev nD} {s : S}

section Seg
variable {g : Fin 3} {lo k hi : ℕ}

theorem seg_split (v : Option (Fin 3)) (h₁ : lo ≤ k) (h₂ : k ≤ hi) :
    Seg m ρ c g lo hi v ⊢ (iprop(Seg m ρ c g lo k v ∗ Seg m ρ c g k hi v) : sProp 𝕄) := by
  cases v
  · exact junk_split h₁ h₂
  · exact rows_split h₁ h₂
theorem seg_join (v : Option (Fin 3)) (h₁ : lo ≤ k) (h₂ : k ≤ hi) :
    iprop(Seg m ρ c g lo k v ∗ Seg m ρ c g k hi v) ⊢ (Seg m ρ c g lo hi v : sProp 𝕄) := by
  cases v
  · exact junk_join h₁ h₂
  · exact rows_join h₁ h₂
theorem seg_junk (v : Option (Fin 3)) : Seg m ρ c g lo hi v ⊢ (Junk c (bufM g) lo hi : sProp 𝕄) := by
  cases v
  · exact Entails.refl _
  · exact rows_junk
theorem seg_eq (v : Option (Fin 3)) {lo' hi' : ℕ} (h₁ : lo = lo') (h₂ : hi = hi') : Seg m ρ c g lo hi v ⊢ (Seg m ρ c g lo' hi' v : sProp 𝕄) := by
  subst h₁; subst h₂; exact Entails.refl _
/-- An empty range of rows counts at any values. -/
theorem seg_nil (v v' : Option (Fin 3)) : Seg m ρ c g lo lo v ⊢ (Seg m ρ c g lo lo v' : sProp 𝕄) := by
  refine (seg_junk v).trans ?_
  cases v'
  · exact Entails.refl _
  · exact junk_nil_rows
theorem rows_seg (k' : Fin 3) : Rows c (bufM g) lo hi (Bk m ρ g k' c) ⊢ (Seg m ρ c g lo hi (some k') : sProp 𝕄) := Entails.refl _
theorem seg_rows (k' : Fin 3) : Seg m ρ c g lo hi (some k') ⊢ (Rows c (bufM g) lo hi (Bk m ρ g k' c) : sProp 𝕄) := Entails.refl _
theorem junk_seg : Junk c (bufM g) lo hi ⊢ (Seg m ρ c g lo hi none : sProp 𝕄) := Entails.refl _
end Seg

/-! ## Loads and stores -/

section Adv
variable {g : Fin 3} {lo d n w : ℕ} {new old : Option (Fin 3)}

theorem adv_peek {off : Fin 2 → ℕ} {inb} (hoff : off = ![lo + d, 0]) (hd : d + w ≤ n)
    {hl : (bufM g).view.LoadsAt (Rect.unit (s := ⟨2, ![4096, Wd g]⟩) off ![w, Wd g] inb).toLoadRect}
    (Q : ((⟨2, ![w, Wd g]⟩ : Shape).Idx → Elt F .bf16) → sProp 𝕄) :
    iprop(Adv m ρ c g lo d n new none ∗ (∀ a, ⌜True⌝ -∗ Adv m ρ c g lo d n new none -∗ Q a))
      ⊢ wpc c (Prog.lift (.load (bufM g) (Rect.unit (s := ⟨2, ![4096, Wd g]⟩) off ![w, Wd g] inb).toLoadRect hl)) Q := by
  unfold Adv
  iintro ⟨⟨Ha, Hb⟩, Hk⟩
  ihave Hb := (seg_junk (none : Option (Fin 3))) $$ Hb
  iapply (junk_load (m := bufM g) hoff (le_refl _) (by omega)) $$ Hb
  iintro %v Hb
  rw [wp_ret]
  imodintro
  iapply Hk $$ %_ %trivial
  isplitl [Ha]; · iexact Ha
  iapply junk_seg; iexact Hb

theorem adv_load {k : Fin 3} {off : Fin 2 → ℕ} {inb} (hoff : off = ![lo + d, 0]) (hd : d + w ≤ n)
    {hl : (bufM g).view.LoadsAt (Rect.unit (s := ⟨2, ![4096, Wd g]⟩) off ![w, Wd g] inb).toLoadRect}
    (Q : ((⟨2, ![w, Wd g]⟩ : Shape).Idx → Elt F .bf16) → sProp 𝕄) :
    iprop(Adv m ρ c g lo d n new (some k) ∗ (∀ a, ⌜a = fun j => Bk m ρ g k c (lo + d + (j 0).val) (j 1).val⌝ -∗ Adv m ρ c g lo d n new (some k) -∗ Q a))
      ⊢ wpc c (Prog.lift (.load (bufM g) (Rect.unit (s := ⟨2, ![4096, Wd g]⟩) off ![w, Wd g] inb).toLoadRect hl)) Q := by
  unfold Adv
  iintro ⟨⟨Ha, Hb⟩, Hk⟩
  ihave Hb := (seg_rows k) $$ Hb
  iapply (rows_load (m := bufM g) hoff (le_refl _) (by omega)) $$ Hb
  iintro Hb
  rw [wp_ret]
  imodintro
  iapply Hk $$ %_ %rfl
  isplitl [Ha]; · iexact Ha
  iapply (rows_seg k); iexact Hb

theorem adv_store {k : Fin 3} {off : Fin 2 → ℕ} {inb} (hoff : off = ![lo + d, 0]) (hd : d + w ≤ n)
    {v : (⟨2, ![w, Wd g]⟩ : Shape).Idx → Elt F .bf16} (hv : ∀ j, v j = Bk m ρ g k c (lo + d + (j 0).val) (j 1).val)
    {hx : ((bufM g).access (Rect.unit (s := ⟨2, ![4096, Wd g]⟩) off ![w, Wd g] inb)).Stores Finset.univ} {hm}
    (Q : PUnit → sProp 𝕄) :
    iprop(Adv m ρ c g lo d n (some k) old ∗ (∀ a, ⌜True⌝ -∗ Adv m ρ c g lo (d + w) n (some k) old -∗ Q a))
      ⊢ wpc c (Prog.lift (.store (bufM g) (Rect.unit (s := ⟨2, ![4096, Wd g]⟩) off ![w, Wd g] inb) v Finset.univ hx hm)) Q := by
  unfold Adv
  iintro ⟨⟨Ha, Hb⟩, Hk⟩
  ihave Hb := (seg_split (k := lo + d + w) old (by omega) (by omega)) $$ Hb
  icases Hb with ⟨Hb, Hc⟩
  ihave Hb := (seg_junk old) $$ Hb
  iapply (junk_store (m := bufM g) hoff hv) $$ Hb
  iintro Hb
  rw [wp_ret]
  imodintro
  iapply Hk $$ %_ %trivial
  isplitl [Ha Hb]
  · iapply (seg_join (k := lo + d) (some k) (by omega) (by omega))
    isplitl [Ha]; · iexact Ha
    rw [← Nat.add_assoc]; iapply (rows_seg k); iexact Hb
  · rw [← Nat.add_assoc]; iexact Hc

end Adv

theorem snd_dvd (g : Fin 3) (c : Dev nD) : 512 ∣ snd g 0 c := by revert g c; decide +kernel
theorem own_dvd (g : Fin 3) (c : Dev nD) : 512 ∣ own g 0 c := by revert g c; decide +kernel

/-- A product tile, as rows of the partial sums. -/
theorem tile_rows (g : Fin 3) {lo n : ℕ} (hlo : 512 ∣ lo) (j : (⟨2, ![512, Wd g]⟩ : Shape).Idx) :
    tile g (xRows m ρ c g (lo / 512 + n)) (wCols m ρ c g) j = Bk m ρ g 0 c (lo + 512 * n + (j 0).val) (j 1).val := by
  have h0 : (j 0).val < 512 := (j 0).isLt
  obtain ⟨q, rfl⟩ := hlo
  show _ = tile g (xRows m ρ c g _) _ _
  rw [show (512 * q + 512 * n + (j 0).val) / 512 = 512 * q / 512 + n by omega]
  refine congrArg _ ?_
  refine (ixm_self (hR := by decide) (hC := Wd_pos g) j).symm.trans ?_
  funext a
  match a with
  | 0 => exact Fin.ext (show (j 0).val % 512 = (512 * q + 512 * n + (j 0).val) % 512 by omega)
  | 1 => rfl

theorem fill_peek (g : Fin 3) (n : ℕ) (hp : (s.get g).ph = .fill n) (hn : n < 4) {off : Fin 2 → ℕ} {inb} (hoff : off = ![snd g 0 c + 512 * n, 0])
    {hl : (bufM g).view.LoadsAt (Rect.unit (s := ⟨2, ![4096, Wd g]⟩) off ![512, Wd g] inb).toLoadRect} :
    Run m ρ K c s (Prog.lift (.load (bufM g) (Rect.unit (s := ⟨2, ![4096, Wd g]⟩) off ![512, Wd g] inb).toLoadRect hl)) (s.upd g { s.get g with ph := .fill n }) (fun _ => True) := by
  refine Run.of_phase g hp _ fun Q => ?_
  unfold phase
  iintro ⟨⟨Ha, Hb⟩, Hk⟩
  iapply (adv_peek (m := m) (ρ := ρ) (g := g) (lo := snd g 0 c) (d := 512 * n) (n := 2048) (w := 512) (new := some 0) hoff (by omega) Q)
  isplitl [Ha]; · iexact Ha
  iintro %v %hv Ha
  iapply Hk $$ %v %hv
  isplitl [Ha] <;> iassumption

theorem fill_store (g : Fin 3) (n : ℕ) (hp : (s.get g).ph = .fill n) (hn : n < 4) {off : Fin 2 → ℕ} {inb} (hoff : off = ![snd g 0 c + 512 * n, 0])
    {v : (⟨2, ![512, Wd g]⟩ : Shape).Idx → Elt F .bf16} (hv : v = tile g (xRows m ρ c g (snd g 0 c / 512 + n)) (wCols m ρ c g))
    {hx : ((bufM g).access (Rect.unit (s := ⟨2, ![4096, Wd g]⟩) off ![512, Wd g] inb)).Stores Finset.univ} {hm} :
    Run m ρ K c s (Prog.lift (.store (bufM g) (Rect.unit (s := ⟨2, ![4096, Wd g]⟩) off ![512, Wd g] inb) v Finset.univ hx hm)) (s.upd g { s.get g with ph := .fill (n + 1) }) (fun _ => True) := by
  refine Run.of_phase g hp _ fun Q => ?_
  unfold phase
  iintro ⟨⟨Ha, Hb⟩, Hk⟩
  iapply (adv_store (m := m) (ρ := ρ) (g := g) (lo := snd g 0 c) (d := 512 * n) (n := 2048) (w := 512) (old := none) (k := 0) hoff (by omega) (fun j => (congrFun hv j).trans (tile_rows g (snd_dvd g c) j)) Q)
  isplitl [Ha]; · iexact Ha
  iintro %v %hv Ha
  iapply Hk $$ %v %hv
  isplitl [Ha] <;> iassumption

theorem keep_peek (g : Fin 3) (n : ℕ) (hp : (s.get g).ph = .keep n) (hn : n < 4) {off : Fin 2 → ℕ} {inb} (hoff : off = ![own g 0 c + 512 * n, 0])
    {hl : (bufM g).view.LoadsAt (Rect.unit (s := ⟨2, ![4096, Wd g]⟩) off ![512, Wd g] inb).toLoadRect} :
    Run m ρ K c s (Prog.lift (.load (bufM g) (Rect.unit (s := ⟨2, ![4096, Wd g]⟩) off ![512, Wd g] inb).toLoadRect hl)) (s.upd g { s.get g with ph := .keep n }) (fun _ => True) :=
  Run.of_phase g hp _ fun Q => adv_peek (m := m) (ρ := ρ) (g := g) (lo := own g 0 c) (d := 512 * n) (n := 2048) (w := 512) (new := some 0) hoff (by omega) Q

theorem keep_store (g : Fin 3) (n : ℕ) (hp : (s.get g).ph = .keep n) (hn : n < 4) {off : Fin 2 → ℕ} {inb} (hoff : off = ![own g 0 c + 512 * n, 0])
    {v : (⟨2, ![512, Wd g]⟩ : Shape).Idx → Elt F .bf16} (hv : v = tile g (xRows m ρ c g (own g 0 c / 512 + n)) (wCols m ρ c g))
    {hx : ((bufM g).access (Rect.unit (s := ⟨2, ![4096, Wd g]⟩) off ![512, Wd g] inb)).Stores Finset.univ} {hm} :
    Run m ρ K c s (Prog.lift (.store (bufM g) (Rect.unit (s := ⟨2, ![4096, Wd g]⟩) off ![512, Wd g] inb) v Finset.univ hx hm)) (s.upd g { s.get g with ph := .keep (n + 1) }) (fun _ => True) :=
  Run.of_phase g hp _ fun Q => adv_store (m := m) (ρ := ρ) (g := g) (lo := own g 0 c) (d := 512 * n) (n := 2048) (w := 512) (old := none) (k := 0) hoff (by omega) (fun j => (congrFun hv j).trans (tile_rows g (own_dvd g c) j)) Q

theorem acc_load (g k : Fin 3) (n : ℕ) (hp : (s.get g).ph = .acc k n) (hn : 512 * n + 512 ≤ hk k) {off : Fin 2 → ℕ} {inb} (hoff : off = ![own g k c + 512 * n, 0])
    {hl : (bufM g).view.LoadsAt (Rect.unit (s := ⟨2, ![4096, Wd g]⟩) off ![512, Wd g] inb).toLoadRect} :
    Run m ρ K c s (Prog.lift (.load (bufM g) (Rect.unit (s := ⟨2, ![4096, Wd g]⟩) off ![512, Wd g] inb).toLoadRect hl)) (s.upd g { s.get g with ph := .acc k n })
      (fun v => v = fun j => Bk m ρ g k c (own g k c + 512 * n + (j 0).val) (j 1).val) :=
  Run.of_phase g hp _ fun Q => adv_load (m := m) (ρ := ρ) (g := g) (lo := own g k c) (d := 512 * n) (n := hk k) (w := 512) (new := some (k + 1)) hoff hn Q

theorem acc_store (g k : Fin 3) (n : ℕ) (hp : (s.get g).ph = .acc k n) (hn : 512 * n + 512 ≤ hk k) {off : Fin 2 → ℕ} {inb} (hoff : off = ![own g k c + 512 * n, 0])
    {v : (⟨2, ![512, Wd g]⟩ : Shape).Idx → Elt F .bf16}
    (hv : ∀ j, v j = Bk m ρ g (k + 1) c (own g k c + 512 * n + (j 0).val) (j 1).val)
    {hx : ((bufM g).access (Rect.unit (s := ⟨2, ![4096, Wd g]⟩) off ![512, Wd g] inb)).Stores Finset.univ} {hm} :
    Run m ρ K c s (Prog.lift (.store (bufM g) (Rect.unit (s := ⟨2, ![4096, Wd g]⟩) off ![512, Wd g] inb) v Finset.univ hx hm)) (s.upd g { s.get g with ph := .acc k (n + 1) }) (fun _ => True) :=
  Run.of_phase g hp _ fun Q => adv_store (m := m) (ρ := ρ) (g := g) (lo := own g k c) (d := 512 * n) (n := hk k) (w := 512) (old := some k) (k := k + 1) hoff hn hv Q

theorem seg_load {g k : Fin 3} {lo hi o w : ℕ} {off : Fin 2 → ℕ} {inb} (hoff : off = ![o, 0]) (h₁ : lo ≤ o) (h₂ : o + w ≤ hi)
    {hl : (bufM g).view.LoadsAt (Rect.unit (s := ⟨2, ![4096, Wd g]⟩) off ![w, Wd g] inb).toLoadRect}
    (Q : ((⟨2, ![w, Wd g]⟩ : Shape).Idx → Elt F .bf16) → sProp 𝕄) :
    iprop(Seg m ρ c g lo hi (some k) ∗ (∀ a, ⌜a = fun j => Bk m ρ g k c (o + (j 0).val) (j 1).val⌝ -∗ Seg m ρ c g lo hi (some k) -∗ Q a))
      ⊢ wpc c (Prog.lift (.load (bufM g) (Rect.unit (s := ⟨2, ![4096, Wd g]⟩) off ![w, Wd g] inb).toLoadRect hl)) Q := by
  iintro ⟨Hb, Hk⟩
  ihave Hb := (seg_rows k) $$ Hb
  iapply (rows_load (m := bufM g) hoff h₁ h₂) $$ Hb
  iintro Hb
  rw [wp_ret]
  imodintro
  iapply Hk $$ %_ %rfl
  iapply (rows_seg k); iexact Hb

/-- The last stage reads the rows kept. -/
theorem fin_load (g : Fin 3) (q n : ℕ) (hp : (s.get g).ph = .send 2 n) (hq : q < 4) {off : Fin 2 → ℕ} {inb} (hoff : off = ![own g 2 c + 128 * q, 0])
    {hl : (bufM g).view.LoadsAt (Rect.unit (s := ⟨2, ![4096, Wd g]⟩) off ![128, Wd g] inb).toLoadRect} :
    Run m ρ K c s (Prog.lift (.load (bufM g) (Rect.unit (s := ⟨2, ![4096, Wd g]⟩) off ![128, Wd g] inb).toLoadRect hl)) (s.upd g { s.get g with ph := .send 2 n })
      (fun v => v = fun j => Bk m ρ g 2 c (own g 2 c + 128 * q + (j 0).val) (j 1).val) := by
  refine Run.of_phase g hp _ fun Q => ?_
  unfold phase
  iintro ⟨⟨Ha, Hb⟩, Hk⟩
  iapply (seg_load (m := m) (ρ := ρ) (g := g) (k := 2) (lo := own g 2 c) (hi := own g 2 c + 512) (o := own g 2 c + 128 * q) (w := 128) hoff (by omega) (by omega) Q)
  isplitl [Hb]; · iexact Hb
  iintro %v %hv Hb
  iapply Hk $$ %v %hv
  isplitl [Ha] <;> iassumption

/-! ## From phase to phase -/

theorem fill_send (g : Fin 3) : phase m ρ c g (.fill 4) ⊢ (phase m ρ c g (.send 0 0) : sProp 𝕄) := by
  unfold phase Adv
  iintro ⟨⟨Ha, Hx⟩, Hb⟩
  isplitl [Ha]; · iexact Ha
  iexact Hb

theorem send_keep (g : Fin 3) : phase m ρ c g (.send 0 4) ⊢ (phase m ρ c g (.keep 0) : sProp 𝕄) := by
  unfold phase Adv
  iintro ⟨Ha, Hb⟩
  ihave Hb := (seg_split (k := own g 0 c) (kept 0) (le_refl _) (by omega)) $$ Hb
  icases Hb with ⟨Hb, Hc⟩
  isplitl [Hb]
  · iapply (seg_nil (kept 0) (some 0)); iexact Hb
  · iexact Hc

theorem keep_acc (g : Fin 3) : phase m ρ c g (.keep 4) ⊢ (phase m ρ c g (.acc 0 0) : sProp 𝕄) := by
  unfold phase Adv
  iintro ⟨Ha, Hx⟩
  ihave Hb := (seg_split (k := own g 0 c) (some 0) (le_refl _) (by omega)) $$ Ha
  icases Hb with ⟨Hb, Hc⟩
  isplitl [Hb]
  · iapply (seg_nil (some 0) (some (0 + 1))); iexact Hb
  · iexact Hc

/-- What is kept after a stage is the half kept and the half sent of the next. -/
theorem halves (g k : Fin 3) (c : Dev nD) (hk' : k ≠ 2) : (snd g (k + 1) c = own g k c ∧ own g (k + 1) c = own g k c + hk (k + 1)) ∨
    (own g (k + 1) c = own g k c ∧ snd g (k + 1) c = own g k c + hk (k + 1)) := by revert g k c; decide +kernel

theorem acc_send_aux (g k : Fin 3) (hk' : k ≠ 2) (v : Option (Fin 3)) :
    Seg m ρ c g (own g k c) (own g k c + hk k) v
      ⊢ (iprop(Seg m ρ c g (snd g (k + 1) c) (snd g (k + 1) c + hk (k + 1)) v ∗ Seg m ρ c g (own g (k + 1) c) (own g (k + 1) c + hk (k + 1)) v) : sProp 𝕄) := by
  have e : hk k = hk (k + 1) + hk (k + 1) := by revert k; decide
  rcases halves g k c hk' with ⟨h1, h2⟩ | ⟨h1, h2⟩
  · rw [h1, h2, e, ← Nat.add_assoc]
    exact seg_split v (by omega) (by omega)
  · rw [h1, h2, e, ← Nat.add_assoc]
    exact (seg_split v (by omega) (by omega)).trans sep_comm.1

theorem acc_send0 (g : Fin 3) : phase m ρ c g (.acc 0 4) ⊢ (phase m ρ c g (.send 1 0) : sProp 𝕄) := by
  unfold phase Adv
  iintro ⟨Ha, Hx⟩
  iapply (acc_send_aux (m := m) (ρ := ρ) (c := c) g 0 (by decide) (some 1)); iexact Ha

theorem acc_send1 (g : Fin 3) : phase m ρ c g (.acc 1 2) ⊢ (phase m ρ c g (.send 2 0) : sProp 𝕄) := by
  unfold phase Adv
  iintro ⟨Ha, Hx⟩
  iapply (acc_send_aux (m := m) (ρ := ρ) (c := c) g 1 (by decide) (some 2)); iexact Ha

theorem send_acc1 (g : Fin 3) : phase m ρ c g (.send 1 2) ⊢ (phase m ρ c g (.acc 1 0) : sProp 𝕄) := by
  unfold phase Adv
  iintro ⟨Ha, Hb⟩
  ihave Hb := (seg_split (k := own g 1 c) (kept 1) (le_refl _) (by omega)) $$ Hb
  icases Hb with ⟨Hb, Hc⟩
  isplitl [Hb]
  · iapply (seg_nil (kept 1) (some (1 + 1))); iexact Hb
  · iexact Hc

end Cert.KernelIdeal.Run
-- ==== Proof.Comm.lean ====
/-
# Steps of a transfer

Starting a transfer, waiting for it to arrive, reading what arrived, and waiting for it to have left.
-/
module

public import proofs.«01_k».proof.Proof.Tiles

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}
variable {c : Dev nD} {s : S}

theorem sendSt_ff (g : Fin 3) (i : Fin 10) : sendSt (F := F) c g i false false = iprop(toSend c g i ∗ atPos ER (sendCell c g i) 0 ∅ 0 ∗ emp) := rfl
theorem sendSt_tf (g : Fin 3) (i : Fin 10) : sendSt (F := F) c g i true false = iprop(emp ∗ atPos ER (sendCell c g i) 0 ∅ 0 ∗ cred (tallyAt (sendCell c g i) () (NN g i))) := rfl
theorem sendSt_tt (g : Fin 3) (i : Fin 10) : sendSt (F := F) c g i true true = iprop(emp ∗ semVal (sendCell c g i) 0 ∗ srcJ c g i) := rfl
theorem recvSt_f (g : Fin 3) (i : Fin 10) : recvSt m ρ c g i false = iprop(atPos ER (recvCell c g i) 0 ∅ 0 ∗ cred (tallyAt (recvCell c g i) () (NN g i))) := rfl
theorem recvSt_t (g : Fin 3) (i : Fin 10) : recvSt m ρ c g i true = iprop(semVal (recvCell c g i) 0 ∗ landR m ρ c g i) := rfl

theorem piece_fits (i : Fin 10) : szOf i * sOf i + szOf i ≤ hk (kOf i) ∧ ck (kOf i) = szOf i := by revert i; decide

/-! ## Starting a transfer -/

/-- The rows sent are, on the peer, the rows received. -/
theorem recvB_peer (g : Fin 3) (i : Fin 10) (c : Dev nD) (r q : ℕ) :
    recvB m ρ g i (peer g i c) (rOf i + r) q = Bk m ρ g (kOf i) c (srcRow g i c + r) q := by
  unfold recvB
  rw [peer_peer, Nat.add_sub_cancel_left]
  have h := srcRow_peer g i (peer g i c)
  rw [peer_peer] at h
  rw [h]

theorem send_pay {g : Fin 3} {i : Fin 10} {off : Fin 2 → ℕ} {inb} {hr} (hoff : off = ![srcRow g i c, 0]) (fs) :
    ((((bufM g).slice (Rect.unit (s := ⟨2, ![4096, Wd g]⟩) off ![szOf i, Wd g] inb) hr).view.loc (c : Thread nD τ))
        ↦[(((bufM g).slice (Rect.unit (s := ⟨2, ![4096, Wd g]⟩) off ![szOf i, Wd g] inb) hr).view.set)]{fullShare} fs)
      ⊢ (srcJ c g i : sProp 𝕄) :=
  (owns_rows (B := fun r q => (((bufM g).slice (Rect.unit (s := ⟨2, ![4096, Wd g]⟩) off ![szOf i, Wd g] inb) hr).view.read (Elt F) fs)
      (ixm (szOf i) (Wd g) (szOf_pos i) (Wd_pos g) (r - srcRow g i c) q)) hoff fs (fun j => by
    rw [Nat.add_sub_cancel_left, ixm_self])).trans rows_junk

theorem recv_pay {g : Fin 3} {i : Fin 10} {roff : Fin 2 → ℕ} {inb'} {hr'} (hroff : roff = ![rOf i, 0])
    {v : (⟨2, ![szOf i, Wd g]⟩ : Shape).Idx → Elt F .bf16} (hv : v = fun j => Bk m ρ g (kOf i) c (srcRow g i c + (j 0).val) (j 1).val) (fd) :
    ((((rcvM g).slice (Rect.unit (s := ⟨2, ![3584, Wd g]⟩) roff ![szOf i, Wd g] inb') hr').view.loc ((peer g i c : Dev nD) : Thread nD τ))
        ↦[(((rcvM g).slice (Rect.unit (s := ⟨2, ![3584, Wd g]⟩) roff ![szOf i, Wd g] inb') hr').view.set)]{fullShare}
          (((rcvM g).slice (Rect.unit (s := ⟨2, ![3584, Wd g]⟩) roff ![szOf i, Wd g] inb') hr').view.write (Elt F) fd v Finset.univ))
      ⊢ (landR m ρ (peer g i c) g i : sProp 𝕄) :=
  owns_rows hroff _ (fun j => by
    rw [View.read_write_univ, hv, recvB_peer])

/-- A transfer started, given what it needs. -/
theorem wp_start {g : Fin 3} {i : Fin 10} {n : Dev nD} (hn : n = peer g i c) {off roff : Fin 2 → ℕ} {inb inb'} {hr hr'}
    (hoff : off = ![srcRow g i c, 0]) (hroff : roff = ![rOf i, 0]) {qs qr : DmaSem sig} (hqs : qs = sendQ g i) (hqr : qr = recvQ g i)
    {hsc} {hsrc} {hdst} {hsem}
    (O : CellTallies nD τ sig Unit) (W : Waits sig Unit) {α : Type} {Q : α → sProp 𝕄} {kk : PUnit → Prog (TpuEff nD τ sig (Elt F) Λ₀ .tc) α} :
    iprop(recs m ρ K ∗ Rows c (bufM g) (srcRow g i c) (srcRow g i c + szOf i) (Bk m ρ g (kOf i) c) ∗ toSend c g i
        ∗ owes (c : Thread nD τ) (O + tallyAt (recvCell (peer g i c) g i) () (NN g i)) W)
      ⊢ iprop(((cred (tallyAt (sendCell c g i) () (NN g i)) ∗ owes (c : Thread nD τ) O W) -∗ wp frame (wpE (defs₀ (F := F)) 𝒱₀ (c : Thread nD τ) none) Set.univ (kk ⟨⟩) Q)
        -∗ wpc c (.op (.enqueueDma ((bufM g).slice (Rect.unit (s := ⟨2, ![4096, Wd g]⟩) off ![szOf i, Wd g] inb) hr)
          (.remote (Dev.tc n) ((rcvM g).slice (Rect.unit (s := ⟨2, ![3584, Wd g]⟩) roff ![szOf i, Wd g] inb') hr') (.dma qs) hsc) (.dma qr) hsrc hdst hsem) kk) Q) := by
  subst hn hqs hqr
  unfold toSend
  iintro ⟨#Hrec, Hrows, ⟨Hts, Htr, Hland⟩, Ho⟩
  ihave Hs := (rows_owns hoff (inb := inb) (hr := hr)) $$ Hrows
  icases Hs with ⟨%fs, %hfs, Hs⟩
  ihave Hd := (junk_owns hroff (inb := inb') (hr := hr')) $$ Hland
  icases Hd with ⟨%fd, Hd⟩
  iapply (Rounds.wp_send_pointsTo 𝒱₀ ER (Rd m ρ) (c : Thread nD τ) none (κ₁ := K (c, some (false, g, i))) (κ₂ := K (peer g i c, some (true, g, i)))
    (r₁ := 0) (r₂ := 0) (d₁ := 0) (d₂ := 0) (fd := fd)
    (by rw [duties_x]; exact Finset.mem_singleton_self _) (by rw [duties_x]; exact Finset.mem_singleton_self _)
    () () (NN g i) (by subst hroff; rfl) (amount_x m ρ c (false, g, i) 0) (amount_x m ρ (peer g i c) (true, g, i) 0) O rfl
    (by rw [payload_x]; exact send_pay hoff fs)
    (by rw [payload_x]; exact recv_pay hroff hfs fd)) $$ [Hs Hd Hts Htr Ho]
  isplitr; · iapply (recs_inv m ρ K (c, some (false, g, i))); iexact Hrec
  isplitr; · iapply (recs_inv m ρ K (peer g i c, some (true, g, i))); iexact Hrec
  isplitl [Hs]; · iexact Hs
  isplitl [Hd]; · iexact Hd
  isplitl [Ho]; · iexact Ho
  isplitl [Hts]; · iexact Hts
  isplitr; · iapply (recs_reached m ρ K (c, some (false, g, i))); iexact Hrec
  isplitl [Htr]; · iexact Htr
  iapply (recs_reached m ρ K (peer g i c, some (true, g, i))); iexact Hrec

theorem dec_succ_ne {a b : ℕ} (h : a ≠ b) : decide (a < b + 1) = decide (a < b) := by
  by_cases h' : a < b
  · rw [decide_eq_true h', decide_eq_true (by omega)]
  · rw [decide_eq_false h', decide_eq_false (by omega)]

theorem step_send (g : Fin 3) (i : Fin 10) (hp : (s.get g).ph = .send (kOf i) (sOf i)) (hns : (s.get g).ns = i.val) (hnw : (s.get g).nw ≤ i.val)
    {n : Dev nD} (hn : n = peer g i c) {off roff : Fin 2 → ℕ} {inb inb'} {hr hr'}
    (hoff : off = ![srcRow g i c, 0]) (hroff : roff = ![rOf i, 0]) {qs qr : DmaSem sig} (hqs : qs = sendQ g i) (hqr : qr = recvQ g i)
    {hsc} {hsrc} {hdst} {hsem} :
    Run m ρ K c s (Prog.lift (.enqueueDma ((bufM g).slice (Rect.unit (s := ⟨2, ![4096, Wd g]⟩) off ![szOf i, Wd g] inb) hr)
          (.remote (Dev.tc n) ((rcvM g).slice (Rect.unit (s := ⟨2, ![3584, Wd g]⟩) roff ![szOf i, Wd g] inb') hr') (.dma qs) hsc) (.dma qr) hsrc hdst hsem))
      (s.upd g { s.get g with ph := .send (kOf i) (sOf i + 1), ns := (s.get g).ns + 1 }) (fun _ => True) := by
  refine Run.of_grp g _ fun Q => ?_
  have hfit := piece_fits i
  unfold base grp
  rw [hp]
  unfold phase
  rw [owed_step c s.ns g i hns]
  iintro ⟨⟨#Hr, Hl, ⟨%W, Ho⟩, Hin⟩, ⟨⟨Ha, Hkept⟩, Hsend, Hrecv⟩, Hk⟩
  ihave H := (bigSep_univ_update (Φ := fun j : Fin 10 => sendSt (F := F) c g j (decide (j.val < (s.get g).ns)) (decide (j.val < (s.get g).nw)))
    (Ψ := fun j : Fin 10 => sendSt (F := F) c g j (decide (j.val < (s.get g).ns + 1)) (decide (j.val < (s.get g).nw))) i
    (fun j hj => by rw [dec_succ_ne]; rw [hns]; exact fun h => hj (Fin.ext h))) $$ Hsend
  icases H with ⟨Hst, Hsend⟩
  have e1 : decide (i.val < (s.get g).ns) = false := decide_eq_false (by omega)
  have e2 : decide (i.val < (s.get g).nw) = false := decide_eq_false (by omega)
  have e3 : decide (i.val < (s.get g).ns + 1) = true := decide_eq_true (by omega)
  rw [e1, e2, e3]
  ihave Hst := (Entails.of_eq (sendSt_ff g i)) $$ Hst
  rw [sendSt_tf]
  icases Hst with ⟨Hto, Hat, -⟩
  ihave Ha := (seg_split (k := snd g (kOf i) c + ck (kOf i) * (sOf i + 1)) (some (kOf i)) (by rw [Nat.mul_succ]; omega) (by rw [hfit.2, Nat.mul_succ]; omega)) $$ Ha
  icases Ha with ⟨Hrows, Ha⟩
  ihave Hrows := (seg_eq (lo' := srcRow g i c) (hi' := srcRow g i c + szOf i) (some (kOf i)) (by unfold srcRow; rw [hfit.2]) (by unfold srcRow; rw [hfit.2, Nat.mul_succ, Nat.add_assoc])) $$ Hrows
  ihave Hrows := (seg_rows (kOf i)) $$ Hrows
  iapply (wp_start (K := K) hn hoff hroff hqs hqr (owed c (Function.update s.ns g ((s.get g).ns + 1))) W) $$ [Hrows Hto Ho]
  · isplitr; · iexact Hr
    isplitl [Hrows]; · iexact Hrows
    isplitl [Hto]; · iexact Hto
    iexact Ho
  iintro ⟨Hc, Ho⟩
  rw [wp_ret]
  imodintro
  iapply Hk $$ %_ %trivial [Hl Ho Hin] [Ha Hkept Hat Hc Hsend Hrecv]
  · isplitr; · iexact Hr
    isplitl [Hl]; · iexact Hl
    isplitl [Ho]; · iexists W; iexact Ho
    iexact Hin
  · isplitl [Ha Hkept]
    · isplitl [Ha] <;> iassumption
    isplitr [Hrecv]
    · iapply Hsend
      isplitr; · iempintro
      isplitl [Hat] <;> iassumption
    · iexact Hrecv

/-! ## Its arrival -/

theorem step_recv (g : Fin 3) (i : Fin 10) (hnr : (s.get g).nr = i.val)
    (hlev : ∀ g' i', s.ns g' ≤ i'.val → (kOf i).val < (kOf i').val)
    {roff : Fin 2 → ℕ} {inb'} {hr'} (hroff : roff = ![rOf i, 0]) {qr : DmaSem sig} (hqr : qr = recvQ g i)
    {sp : Space} {s' : Shape} {e' : EltTy} {src : Memref sig .tc sp s' e'} {hsrc} {hdst} :
    Run m ρ K c s (Prog.lift (.waitDma2 qr src ((rcvM g).slice (Rect.unit (s := ⟨2, ![3584, Wd g]⟩) roff ![szOf i, Wd g] inb') hr') hsrc hdst))
      (s.upd g { s.get g with nr := (s.get g).nr + 1 }) (fun _ => True) := by
  subst hqr hroff
  refine Run.of_grp g _ fun Q => ?_
  rw [show Function.update s.ns g ({ s.get g with nr := (s.get g).nr + 1 } : GS).ns = s.ns from Function.update_eq_self g _]
  unfold base grp
  iintro ⟨⟨#Hr, #Hl, ⟨%W, Ho⟩, Hin⟩, ⟨Hp, Hsend, Hrecv⟩, Hk⟩
  ihave H := (bigSep_univ_update (Φ := fun j : Fin 10 => recvSt m ρ c g j (decide (j.val < (s.get g).nr)))
    (Ψ := fun j : Fin 10 => recvSt m ρ c g j (decide (j.val < (s.get g).nr + 1))) i
    (fun j hj => by rw [dec_succ_ne]; rw [hnr]; exact fun h => hj (Fin.ext h))) $$ Hrecv
  icases H with ⟨Hst, Hrecv⟩
  have e1 : decide (i.val < (s.get g).nr) = false := decide_eq_false (by omega)
  have e3 : decide (i.val < (s.get g).nr + 1) = true := decide_eq_true (by omega)
  rw [e1, e3]
  ihave Hst := (Entails.of_eq (recvSt_f g i)) $$ Hst
  rw [recvSt_t]
  icases Hst with ⟨Hat, Hcr⟩
  iapply (Rounds.wp_wait_rest_token 𝒱₀ ER (Rd m ρ) (c : Thread nD τ) none (κ := K (c, some (true, g, i))) (wpE_waitDma2_eq 𝒱₀ (c : Thread nD τ) none Set.univ) (Set.mem_univ _)
    () (O := owed c s.ns) (W := W) (R := 0) (m := 0) (T := ∅) (by rw [Nat.zero_add]; exact (expect_x m ρ c (true, g, i)).symm)) $$ [Hat Hcr Ho]
  · isplitr; · iapply (recs_inv m ρ K (c, some (true, g, i))); iexact Hr
    isplitl [Hcr]; · iexact Hcr
    isplitl [Ho]; · iexact Ho
    isplitr; · iapply (mayWait_recv c g i s.ns hlev); iexact Hl
    iexact Hat
  iintro ⟨Ho, Hat, -, Hpay⟩
  ihave Hpay := (Entails.of_eq ((rest_x m ρ c (true, g, i)).trans (show xPay m ρ c (true, g, i) = landR m ρ c g i from rfl))) $$ Hpay
  rw [wp_ret]
  imod (Rounds.cell_close ER (Rd m ρ) (Set.mem_univ (K (c, some (true, g, i)))) (fun h => h) (R := 0 + 1) (fun r hr => duties_later m ρ _ r hr)) $$ [Hat] with Hv
  · isplitr; · iapply (recs_inv m ρ K (c, some (true, g, i))); iexact Hr
    iexact Hat
  imodintro
  iapply Hk $$ %_ %trivial [Ho Hin] [Hp Hsend Hrecv Hv Hpay]
  · isplitr; · iexact Hr
    isplitr; · iexact Hl
    isplitl [Ho]; · iexists _; iexact Ho
    iexact Hin
  · isplitl [Hp]; · iexact Hp
    isplitl [Hsend]; · iexact Hsend
    iapply Hrecv
    isplitl [Hv]; · iexact Hv
    iexact Hpay

/-- A load of rows that arrived. -/
theorem step_got (g : Fin 3) (i : Fin 10) (hnr : i.val < (s.get g).nr) {off : Fin 2 → ℕ} {inb} (hoff : off = ![rOf i, 0])
    {hl : (rcvM g).view.LoadsAt (Rect.unit (s := ⟨2, ![3584, Wd g]⟩) off ![szOf i, Wd g] inb).toLoadRect} :
    Run m ρ K c s (Prog.lift (.load (rcvM g) (Rect.unit (s := ⟨2, ![3584, Wd g]⟩) off ![szOf i, Wd g] inb).toLoadRect hl)) (s.upd g (s.get g))
      (fun v => v = fun j => Bk m ρ g (kOf i) (peer g i c) (dstRow g i c + (j 0).val) (j 1).val) := by
  refine Run.of_grp g _ fun Q => ?_
  rw [show Function.update s.ns g (s.get g).ns = s.ns from Function.update_eq_self g _]
  unfold grp
  iintro ⟨Hb, ⟨Hp, Hsend, Hrecv⟩, Hk⟩
  ihave H := (bigSep_univ_update (Φ := fun j : Fin 10 => recvSt m ρ c g j (decide (j.val < (s.get g).nr)))
    (Ψ := fun j : Fin 10 => recvSt m ρ c g j (decide (j.val < (s.get g).nr))) i (fun j hj => rfl)) $$ Hrecv
  icases H with ⟨Hst, Hrecv⟩
  rw [decide_eq_true hnr]
  ihave Hst := (Entails.of_eq (recvSt_t g i)) $$ Hst
  rw [recvSt_t]
  icases Hst with ⟨Hv, Hrows⟩
  iapply (rows_load (m := rcvM g) hoff (le_refl _) (le_refl _)) $$ Hrows
  iintro Hrows
  rw [wp_ret]
  imodintro
  iapply Hk $$ %_ %(by funext j; unfold recvB; rw [Nat.add_sub_cancel_left]) Hb
  isplitl [Hp]; · iexact Hp
  isplitl [Hsend]; · iexact Hsend
  iapply Hrecv
  isplitl [Hv] <;> iassumption

/-! ## Its departure -/

theorem lv_send (c : Dev nD) (g : Fin 3) (i : Fin 10) (u : Unit) : lv (sendCell c g i) u = 0 := by
  show lvS (.dma (semIx (false, g, i))) = _
  unfold lvS; simp only [decode_semIx]

theorem mayWait_send (c : Dev nD) (g : Fin 3) (i : Fin 10) (n : Fin 3 → ℕ) :
    (levAts L lv : sProp 𝕄) ⊢ MayWait (c : Thread nD τ) (.dma (sendQ g i)) () (owed c n) :=
  MayOwe.of_cut (L := L) (lev := lv) 0 (fun p hp => by rw [Finset.mem_singleton.mp hp, L_tc]; exact Finset.mem_singleton_self _)
    (fun γ u hg => by obtain ⟨g', i', -, rfl⟩ := owed_pos hg; exact Finset.mem_singleton_self _)
    (fun p hp => by rw [Finset.mem_singleton.mp hp]; exact le_of_eq (lv_send c g i ()))
    (fun γ u hg => by
      obtain ⟨g', i', hn, rfl⟩ := owed_pos hg
      rw [lv_recv]; omega)

theorem credit_eq (g : Fin 3) (i : Fin 10) {off : Fin 2 → ℕ} {inb} {hr} :
    ((bufM g).slice (Rect.unit (s := ⟨2, ![4096, Wd g]⟩) off ![szOf i, Wd g] inb) hr).view.dmaCredit = NN g i := by
  fin_cases g <;> rfl

theorem step_sent (g : Fin 3) (i : Fin 10) (hnw : (s.get g).nw = i.val) (hns : i.val < (s.get g).ns)
    {off : Fin 2 → ℕ} {inb} {hr} {qs : DmaSem sig} (hqs : qs = sendQ g i)
    {sp : Space} {s' : Shape} {e' : EltTy} {src : Memref sig .tc sp s' e'} {hsrc} {hdst} :
    Run m ρ K c s (Prog.lift (.waitDma2 qs src ((bufM g).slice (Rect.unit (s := ⟨2, ![4096, Wd g]⟩) off ![szOf i, Wd g] inb) hr) hsrc hdst))
      (s.upd g { s.get g with nw := (s.get g).nw + 1 }) (fun _ => True) := by
  subst hqs
  refine Run.of_grp g _ fun Q => ?_
  rw [show Function.update s.ns g ({ s.get g with nw := (s.get g).nw + 1 } : GS).ns = s.ns from Function.update_eq_self g _]
  unfold base grp
  iintro ⟨⟨#Hr, #Hl, ⟨%W, Ho⟩, Hin⟩, ⟨Hp, Hsend, Hrecv⟩, Hk⟩
  ihave H := (bigSep_univ_update (Φ := fun j : Fin 10 => sendSt (F := F) c g j (decide (j.val < (s.get g).ns)) (decide (j.val < (s.get g).nw)))
    (Ψ := fun j : Fin 10 => sendSt (F := F) c g j (decide (j.val < (s.get g).ns)) (decide (j.val < (s.get g).nw + 1))) i
    (fun j hj => by rw [dec_succ_ne (b := (s.get g).nw)]; rw [hnw]; exact fun h => hj (Fin.ext h))) $$ Hsend
  icases H with ⟨Hst, Hsend⟩
  have e1 : decide (i.val < (s.get g).ns) = true := decide_eq_true (by omega)
  have e2 : decide (i.val < (s.get g).nw) = false := decide_eq_false (by omega)
  have e3 : decide (i.val < (s.get g).nw + 1) = true := decide_eq_true (by omega)
  rw [e1, e2, e3]
  ihave Hst := (Entails.of_eq (sendSt_tf g i)) $$ Hst
  rw [sendSt_tt]
  icases Hst with ⟨-, Hat, Hcr⟩
  iapply (Rounds.wp_wait_rest_token 𝒱₀ ER (Rd m ρ) (c : Thread nD τ) none (κ := K (c, some (false, g, i))) (wpE_waitDma2_eq 𝒱₀ (c : Thread nD τ) none Set.univ) (Set.mem_univ _)
    () (O := owed c s.ns) (W := W) (R := 0) (m := 0) (T := ∅) (by rw [Nat.zero_add, credit_eq]; exact (expect_x m ρ c (false, g, i)).symm)) $$ [Hat Hcr Ho]
  · isplitr; · iapply (recs_inv m ρ K (c, some (false, g, i))); iexact Hr
    isplitl [Hcr]; · rw [credit_eq]; iexact Hcr
    isplitl [Ho]; · iexact Ho
    isplitr; · iapply (mayWait_send c g i s.ns); iexact Hl
    iexact Hat
  iintro ⟨Ho, Hat, -, Hpay⟩
  ihave Hpay := (Entails.of_eq ((rest_x m ρ c (false, g, i)).trans (show xPay m ρ c (false, g, i) = srcJ c g i from rfl))) $$ Hpay
  rw [wp_ret]
  imod (Rounds.cell_close ER (Rd m ρ) (Set.mem_univ (K (c, some (false, g, i)))) (fun h => h) (R := 0 + 1) (fun r hr => duties_later m ρ _ r hr)) $$ [Hat] with Hv
  · isplitr; · iapply (recs_inv m ρ K (c, some (false, g, i))); iexact Hr
    iexact Hat
  imodintro
  iapply Hk $$ %_ %trivial [Ho Hin] [Hp Hsend Hrecv Hv Hpay]
  · isplitr; · iexact Hr
    isplitr; · iexact Hl
    isplitl [Ho]; · iexists _; iexact Ho
    iexact Hin
  · isplitl [Hp]; · iexact Hp
    isplitr [Hrecv]
    · iapply Hsend
      isplitr; · iempintro
      isplitl [Hv]; · iexact Hv
      iexact Hpay
    · iexact Hrecv

end Cert.KernelIdeal.Run
-- ==== Proof.Moves.lean ====
/-
# Moves

The sequences of steps that recur in the body: a product tile, a piece received and added, a band of the result.
-/
module

public import proofs.«01_k».proof.Proof.Comm
public import proofs.«01_k».proof.Proof.Steps

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} {c : Dev nD} {s s'' : S}

theorem S.upd_ph {s : S} {g : Fin 3} {ph : Ph} (h : (s.get g).ph = ph) : s.upd g { s.get g with ph := ph } = s := by
  subst h; fin_cases g <;> rfl
theorem S.upd_get (s : S) (g : Fin 3) : s.upd g (s.get g) = s := by fin_cases g <;> rfl

section
variable {α : Type} {R : α → Prop} {kk : PUnit → Prog (TpuEff nD τ sig (Elt F) Λ₀ .tc) α}

/-- A tile of the half to be sent: a product of rows of `x` and columns of `w`, stored. -/
theorem mv_fill (g : Fin 3) (n : ℕ) (hp : (s.get g).ph = .fill n) (hn : n < 4)
    {offx : Fin 2 → ℕ} {inbx} {hlx} {offw : Fin 2 → ℕ} {inbw} {hlw} {off : Fin 2 → ℕ} {inb inb'} {hl hx hm}
    {pay : (S512x512.Idx → Elt F .i8) → ((⟨2, ![512, Wd g]⟩ : Shape).Idx → Elt F .i8) → ((⟨2, ![512, Wd g]⟩ : Shape).Idx → Elt F .bf16)}
    (hox : offx = ![512 * chunk g (snd g 0 c / 512 + n), 0]) (hoff : off = ![snd g 0 c + 512 * n, 0]) (how : offw = ![0, c0 g]) (hpay : pay = tile g)
    (hk : Run m ρ K c (s.upd g { s.get g with ph := .fill (n + 1) }) (kk ⟨⟩) s'' R) :
    Run m ρ K c s (Prog.lift (.load xM (Rect.unit (s := S4096x512) offx S512x512.size inbx).toLoadRect hlx) >>= fun v =>
      Prog.lift (.load wM (Rect.unit (s := S512x2048) offw ![512, Wd g] inbw).toLoadRect hlw) >>= fun w =>
      Prog.lift (.load (bufM g) (Rect.unit (s := ⟨2, ![4096, Wd g]⟩) off ![512, Wd g] inb).toLoadRect hl) >>= fun _ =>
      Prog.lift (.store (bufM g) (Rect.unit (s := ⟨2, ![4096, Wd g]⟩) off ![512, Wd g] inb') (pay v w) Finset.univ hx hm) >>= kk) s'' R := by
  subst hpay
  refine Run.bind (step_x g _ hox) ?_
  rintro _ rfl
  refine Run.bind (step_w g how) ?_
  rintro _ rfl
  refine Run.bind (fill_peek g n hp hn hoff) ?_
  rintro _ -
  rw [S.upd_ph hp]
  exact Run.bind (fill_store g n hp hn hoff rfl) fun _ _ => hk

/-- A tile of the half kept. -/
theorem mv_keep (g : Fin 3) (n : ℕ) (hp : (s.get g).ph = .keep n) (hn : n < 4)
    {offx : Fin 2 → ℕ} {inbx} {hlx} {offw : Fin 2 → ℕ} {inbw} {hlw} {off : Fin 2 → ℕ} {inb inb'} {hl hx hm}
    {pay : (S512x512.Idx → Elt F .i8) → ((⟨2, ![512, Wd g]⟩ : Shape).Idx → Elt F .i8) → ((⟨2, ![512, Wd g]⟩ : Shape).Idx → Elt F .bf16)}
    (hox : offx = ![512 * chunk g (own g 0 c / 512 + n), 0]) (hoff : off = ![own g 0 c + 512 * n, 0]) (how : offw = ![0, c0 g]) (hpay : pay = tile g)
    (hk : Run m ρ K c (s.upd g { s.get g with ph := .keep (n + 1) }) (kk ⟨⟩) s'' R) :
    Run m ρ K c s (Prog.lift (.load xM (Rect.unit (s := S4096x512) offx S512x512.size inbx).toLoadRect hlx) >>= fun v =>
      Prog.lift (.load wM (Rect.unit (s := S512x2048) offw ![512, Wd g] inbw).toLoadRect hlw) >>= fun w =>
      Prog.lift (.load (bufM g) (Rect.unit (s := ⟨2, ![4096, Wd g]⟩) off ![512, Wd g] inb).toLoadRect hl) >>= fun _ =>
      Prog.lift (.store (bufM g) (Rect.unit (s := ⟨2, ![4096, Wd g]⟩) off ![512, Wd g] inb') (pay v w) Finset.univ hx hm) >>= kk) s'' R := by
  subst hpay
  refine Run.bind (step_x g _ hox) ?_
  rintro _ rfl
  refine Run.bind (step_w g how) ?_
  rintro _ rfl
  refine Run.bind (keep_peek g n hp hn hoff) ?_
  rintro _ -
  rw [S.upd_ph hp]
  exact Run.bind (keep_store g n hp hn hoff rfl) fun _ _ => hk

/-- The sums of the next stage. -/
theorem acc_val (g : Fin 3) (i : Fin 10) (hi : kOf i ≠ 2) (r q : ℕ) :
    accS (Bk m ρ g (kOf i) c r q) (Bk m ρ g (kOf i) (peer g i c) r q) = Bk m ρ g (kOf i + 1) c r q := by
  unfold peer
  generalize kOf i = k at hi ⊢
  match k, hi with
  | 0, _ => rfl
  | 1, _ => rfl
  | 2, h => exact absurd rfl h

theorem acc_fit (i : Fin 10) (hi : kOf i ≠ 2) : szOf i = 512 ∧ 512 * sOf i + 512 ≤ hk (kOf i) := by revert i; decide

/-- The rows accumulated with transfer `i`, before and as it arrived. -/
def mineV (m : (ℓ : Loc nD τ sig) → Buf (Elt F) ℓ) (ρ : Dev nD → PrngReg) (c : Dev nD) (g : Fin 3) (i : Fin 10) (w : ℕ) : (⟨2, ![w, Wd g]⟩ : Shape).Idx → Elt F .bf16 :=
  fun j => Bk m ρ g (kOf i) c (dstRow g i c + (j 0).val) (j 1).val
def theirV (m : (ℓ : Loc nD τ sig) → Buf (Elt F) ℓ) (ρ : Dev nD → PrngReg) (c : Dev nD) (g : Fin 3) (i : Fin 10) (w : ℕ) : (⟨2, ![w, Wd g]⟩ : Shape).Idx → Elt F .bf16 :=
  fun j => Bk m ρ g (kOf i) (peer g i c) (dstRow g i c + (j 0).val) (j 1).val

theorem acc_mine (g : Fin 3) (i : Fin 10) (hi : kOf i ≠ 2) (hp : (s.get g).ph = .acc (kOf i) (sOf i)) {off : Fin 2 → ℕ} {inb} {hl}
    (hoff : off = ![own g (kOf i) c + 512 * sOf i, 0]) :
    Run m ρ K c s (Prog.lift (.load (bufM g) (Rect.unit (s := ⟨2, ![4096, Wd g]⟩) off ![512, Wd g] inb).toLoadRect hl)) s
      (fun v => v = mineV m ρ c g i 512) := by
  have h := acc_load (m := m) (ρ := ρ) (K := K) (s := s) g (kOf i) (sOf i) hp (acc_fit i hi).2 (inb := inb) (hl := hl) hoff
  rw [S.upd_ph hp] at h
  unfold mineV dstRow
  rw [(acc_fit i hi).1]
  exact h

theorem got_theirs (g : Fin 3) (i : Fin 10) {w : ℕ} (hw : szOf i = w) (hnr : i.val < (s.get g).nr) {off : Fin 2 → ℕ} {inb} {hl} (hoff : off = ![rOf i, 0]) :
    Run m ρ K c s (Prog.lift (.load (rcvM g) (Rect.unit (s := ⟨2, ![3584, Wd g]⟩) off ![w, Wd g] inb).toLoadRect hl)) s
      (fun v => v = theirV m ρ c g i w) := by
  subst hw
  have h := step_got (m := m) (ρ := ρ) (K := K) (c := c) (s := s) g i hnr (inb := inb) (hl := hl) hoff
  rw [S.upd_get] at h
  exact h

/-- The wait for transfer `i`, and the state after it. -/
def S.got (s : S) (g : Fin 3) : S := s.upd g ⟨(s.get g).ph, (s.get g).ns, (s.get g).nr + 1, (s.get g).nw⟩
theorem S.get_got (s : S) (g : Fin 3) : (s.got g).get g = ⟨(s.get g).ph, (s.get g).ns, (s.get g).nr + 1, (s.get g).nw⟩ := S.get_upd _ _ _

theorem recv_at (g : Fin 3) (i : Fin 10) {w : ℕ} (hw : szOf i = w) (hnr : (s.get g).nr = i.val)
    (hlev : ∀ g' i', s.ns g' ≤ i'.val → (kOf i).val < (kOf i').val)
    {roff : Fin 2 → ℕ} {inb} {hr} (hroff : roff = ![rOf i, 0]) {qr : DmaSem sig} (hqr : qr = recvQ g i)
    {sp : Space} {sh : Shape} {e : EltTy} {src : Memref sig .tc sp sh e} {hsrc} {hdst} :
    Run m ρ K c s (Prog.lift (.waitDma2 qr src ((rcvM g).slice (Rect.unit (s := ⟨2, ![3584, Wd g]⟩) roff ![w, Wd g] inb) hr) hsrc hdst)) (s.got g) (fun _ => True) := by
  subst hw
  exact step_recv g i hnr hlev hroff hqr

theorem sent_at (g : Fin 3) (i : Fin 10) {w : ℕ} (hw : szOf i = w) (hnw : (s.get g).nw = i.val) (hns : i.val < (s.get g).ns)
    {off : Fin 2 → ℕ} {inb} {hr} {qs : DmaSem sig} (hqs : qs = sendQ g i)
    {sp : Space} {sh : Shape} {e : EltTy} {src : Memref sig .tc sp sh e} {hsrc} {hdst} :
    Run m ρ K c s (Prog.lift (.waitDma2 qs src ((bufM g).slice (Rect.unit (s := ⟨2, ![4096, Wd g]⟩) off ![w, Wd g] inb) hr) hsrc hdst))
      (s.upd g ⟨(s.get g).ph, (s.get g).ns, (s.get g).nr, (s.get g).nw + 1⟩) (fun _ => True) := by
  subst hw
  exact step_sent g i hnw hns hqs

theorem send_at (g : Fin 3) (i : Fin 10) {w : ℕ} (hw : szOf i = w) (hp : (s.get g).ph = .send (kOf i) (sOf i)) (hns : (s.get g).ns = i.val) (hnw : (s.get g).nw ≤ i.val)
    {n : Dev nD} (hn : n = peer g i c) {off roff : Fin 2 → ℕ} {inb inb'} {hr hr'}
    (hoff : off = ![srcRow g i c, 0]) (hroff : roff = ![rOf i, 0]) {qs qr : DmaSem sig} (hqs : qs = sendQ g i) (hqr : qr = recvQ g i)
    {hsc} {hsrc} {hdst} {hsem} :
    Run m ρ K c s (Prog.lift (.enqueueDma ((bufM g).slice (Rect.unit (s := ⟨2, ![4096, Wd g]⟩) off ![w, Wd g] inb) hr)
          (.remote (Dev.tc n) ((rcvM g).slice (Rect.unit (s := ⟨2, ![3584, Wd g]⟩) roff ![w, Wd g] inb') hr') (.dma qs) hsc) (.dma qr) hsrc hdst hsem))
      (s.upd g ⟨.send (kOf i) (sOf i + 1), (s.get g).ns + 1, (s.get g).nr, (s.get g).nw⟩) (fun _ => True) := by
  subst hw
  exact step_send g i hp hns hnw hn hoff hroff hqs hqr

/-- Their sum, stored. -/
theorem acc_sum (g : Fin 3) (i : Fin 10) (hi : kOf i ≠ 2) (hp : (s.get g).ph = .acc (kOf i) (sOf i)) {off : Fin 2 → ℕ} {inb} {hx hm}
    (hoff : off = ![own g (kOf i) c + 512 * sOf i, 0]) {v : (⟨2, ![512, Wd g]⟩ : Shape).Idx → Elt F .bf16}
    (hv : ∀ j, v j = accS (mineV m ρ c g i 512 j) (theirV m ρ c g i 512 j)) :
    Run m ρ K c s (Prog.lift (.store (bufM g) (Rect.unit (s := ⟨2, ![4096, Wd g]⟩) off ![512, Wd g] inb) v Finset.univ hx hm))
      (s.upd g { s.get g with ph := .acc (kOf i) (sOf i + 1) }) (fun _ => True) :=
  acc_store g (kOf i) (sOf i) hp (acc_fit i hi).2 hoff (fun j => by
    rw [hv]
    refine (acc_val g i hi _ _).trans ?_
    unfold dstRow
    rw [(acc_fit i hi).1])

/-- A piece received and added. -/
theorem mv_acc (g : Fin 3) (i : Fin 10) (hi : kOf i ≠ 2) (hp : (s.get g).ph = .acc (kOf i) (sOf i)) (hnr : (s.get g).nr = i.val)
    (hlev : ∀ g' i', s.ns g' ≤ i'.val → (kOf i).val < (kOf i').val)
    {off roff : Fin 2 → ℕ} {inb inb1 inb2 inbr inbr'} {hr' hl hl1 hl2 hx hm} {qr : DmaSem sig}
    {sp : Space} {sh : Shape} {e : EltTy} {src : Memref sig .tc sp sh e} {hsrc hdst}
    {pay : ((⟨2, ![512, Wd g]⟩ : Shape).Idx → Elt F .bf16) → ((⟨2, ![512, Wd g]⟩ : Shape).Idx → Elt F .bf16) → ((⟨2, ![512, Wd g]⟩ : Shape).Idx → Elt F .bf16)}
    (hoff : off = ![own g (kOf i) c + 512 * sOf i, 0]) (hroff : roff = ![rOf i, 0]) (hqr : qr = recvQ g i)
    (hpay : ∀ a b j, pay a b j = accS (a j) (b j))
    (hk : Run m ρ K c ((s.got g).upd g ⟨.acc (kOf i) (sOf i + 1), (s.get g).ns, (s.get g).nr + 1, (s.get g).nw⟩) (kk ⟨⟩) s'' R) :
    Run m ρ K c s (Prog.lift (.waitDma2 qr src ((rcvM g).slice (Rect.unit (s := ⟨2, ![3584, Wd g]⟩) roff ![512, Wd g] inbr) hr') hsrc hdst) >>= fun _ =>
      Prog.lift (.load (bufM g) (Rect.unit (s := ⟨2, ![4096, Wd g]⟩) off ![512, Wd g] inb).toLoadRect hl) >>= fun a =>
      Prog.lift (.load (rcvM g) (Rect.unit (s := ⟨2, ![3584, Wd g]⟩) roff ![512, Wd g] inbr').toLoadRect hl1) >>= fun b =>
      Prog.lift (.load (bufM g) (Rect.unit (s := ⟨2, ![4096, Wd g]⟩) off ![512, Wd g] inb1).toLoadRect hl2) >>= fun _ =>
      Prog.lift (.store (bufM g) (Rect.unit (s := ⟨2, ![4096, Wd g]⟩) off ![512, Wd g] inb2) (pay a b) Finset.univ hx hm) >>= kk) s'' R := by
  refine Run.bind (recv_at g i (acc_fit i hi).1 hnr hlev hroff hqr) ?_
  rintro _ -
  have e := S.get_got s g
  have hp' : ((s.got g).get g).ph = .acc (kOf i) (sOf i) := by rw [e]; exact hp
  refine Run.bind (acc_mine g i hi hp' hoff) ?_
  rintro _ rfl
  refine Run.bind (got_theirs g i (acc_fit i hi).1 (by rw [e]; exact hnr ▸ Nat.lt_succ_self _) hroff) ?_
  rintro _ rfl
  refine Run.bind (acc_mine g i hi hp' hoff) ?_
  rintro _ -
  refine Run.bind (acc_sum g i hi hp' hoff (fun j => hpay _ _ j)) ?_
  rintro _ -
  rw [e]
  exact hk

/-- A last piece received, added, scaled and written. -/
theorem fin_mine (g : Fin 3) (i : Fin 10) (hi : kOf i = 2) {n : ℕ} (hp : (s.get g).ph = .send 2 n) {off : Fin 2 → ℕ} {inb} {hl}
    (hoff : off = ![own g 2 c + 128 * sOf i, 0]) :
    Run m ρ K c s (Prog.lift (.load (bufM g) (Rect.unit (s := ⟨2, ![4096, Wd g]⟩) off ![128, Wd g] inb).toLoadRect hl)) s
      (fun v => v = mineV m ρ c g i 128) := by
  have hf : ∀ i, kOf i = 2 → szOf i = 128 ∧ sOf i < 4 := by decide
  have h := fin_load (m := m) (ρ := ρ) (K := K) (s := s) g (sOf i) n hp (hf i hi).2 (inb := inb) (hl := hl) hoff
  rw [S.upd_ph hp] at h
  unfold mineV dstRow
  rw [(hf i hi).1, hi]
  exact h

theorem grpOf_col (g : Fin 3) (q : ℕ) (hq : q < Wd g) : grpOf (c0 g + q) = g := by
  unfold grpOf
  fin_cases g
  · exact if_pos (by have : q < 640 := hq; show 0 + q < 640; omega)
  · have : q < 640 := hq
    exact (if_neg (by show ¬ 640 + q < 640; omega)).trans (if_pos (by show 640 + q < 1280; omega))
  · exact (if_neg (by show ¬ 1280 + q < 640; omega)).trans (if_neg (by show ¬ 1280 + q < 1280; omega))

theorem fin_val (g : Fin 3) (i : Fin 10) (hi : kOf i = 2) (j : (⟨2, ![128, Wd g]⟩ : Shape).Idx) :
    outS (scale m ρ c) (mineV m ρ c g i 128 j) (theirV m ρ c g i 128 j) = outV m ρ c (128 * sOf i + (j 0).val) (c0 g + (j 1).val) := by
  have hf : ∀ i, kOf i = 2 → szOf i = 128 := by decide
  have hg := grpOf_col g (j 1).val (j 1).isLt
  unfold outV mineV theirV dstRow peer
  rw [hg, hi, hf i hi, Nat.add_sub_cancel_left, Nat.add_assoc]
  rfl

theorem mv_fin (g : Fin 3) (i : Fin 10) (hi : kOf i = 2) {n : ℕ} (hp : (s.get g).ph = .send 2 n) (hnr : (s.get g).nr = i.val)
    (hlev : ∀ g' i', s.ns g' ≤ i'.val → (kOf i).val < (kOf i').val) (ho : s.o = 3 * sOf i + g.val)
    {off roff offo : Fin 2 → ℕ} {inb inbr inbr' inbo inbo'} {hr' hl hl1 hl2 hx hm} {qr : DmaSem sig}
    {sp : Space} {sh : Shape} {e : EltTy} {src : Memref sig .tc sp sh e} {hsrc hdst}
    {pay : ((⟨2, ![128, Wd g]⟩ : Shape).Idx → Elt F .bf16) → ((⟨2, ![128, Wd g]⟩ : Shape).Idx → Elt F .bf16) → ((⟨2, ![128, Wd g]⟩ : Shape).Idx → Elt F .f32)}
    (hoff : off = ![own g 2 c + 128 * sOf i, 0]) (hroff : roff = ![rOf i, 0]) (hoffo : offo = ![128 * sOf i, c0 g]) (hqr : qr = recvQ g i)
    (hpay : ∀ a b j, pay a b j = outS (scale m ρ c) (a j) (b j))
    (hk : Run m ρ K c ⟨(s.got g).a, (s.got g).b, (s.got g).d, (s.got g).o + 1⟩ (kk ⟨⟩) s'' R) :
    Run m ρ K c s (Prog.lift (.waitDma2 qr src ((rcvM g).slice (Rect.unit (s := ⟨2, ![3584, Wd g]⟩) roff ![128, Wd g] inbr) hr') hsrc hdst) >>= fun _ =>
      Prog.lift (.load (bufM g) (Rect.unit (s := ⟨2, ![4096, Wd g]⟩) off ![128, Wd g] inb).toLoadRect hl) >>= fun a =>
      Prog.lift (.load (rcvM g) (Rect.unit (s := ⟨2, ![3584, Wd g]⟩) roff ![128, Wd g] inbr').toLoadRect hl1) >>= fun b =>
      Prog.lift (.load oM (Rect.unit (s := S512x2048) offo ![128, Wd g] inbo).toLoadRect hl2) >>= fun _ =>
      Prog.lift (.store oM (Rect.unit (s := S512x2048) offo ![128, Wd g] inbo') (pay a b) Finset.univ hx hm) >>= kk) s'' R := by
  have hsz : szOf i = 128 := by
    have hf : ∀ i, kOf i = 2 → szOf i = 128 := by decide
    exact hf i hi
  refine Run.bind (recv_at g i hsz hnr hlev hroff hqr) ?_
  rintro _ -
  have e := S.get_got s g
  refine Run.bind (fin_mine g i hi (n := n) (by rw [e]; exact hp) hoff) ?_
  rintro _ rfl
  refine Run.bind (got_theirs g i hsz (by rw [e]; exact hnr ▸ Nat.lt_succ_self _) hroff) ?_
  rintro _ rfl
  refine Run.bind (step_outload g) ?_
  rintro _ -
  refine Run.bind (step_outstore g (sOf i) ((S.o_upd s g _).trans ho) hoffo (fun j => (hpay _ _ j).trans (fin_val g i hi j))) ?_
  rintro _ -
  exact hk

end

/-! ## The body's parts on the device's own buffers -/

/-- A part of the body, at the buffers and semaphores it is run with. -/
abbrev wh {β : Type 1} (f : (arg0 : Memref sig .tc .vmem S4096x512 .i8) → arg0.IsWhole → (arg1 : Memref sig .tc .vmem S512x2048 .i8) → arg1.IsWhole
    → (arg2 : Memref sig .tc .smem S1 .f32) → arg2.IsWhole → (arg3 : Memref sig .tc .smem S1 .f32) → arg3.IsWhole
    → (arg4 : Memref sig .tc .vmem S512x2048 .f32) → arg4.IsWhole
    → (arg5 : Memref sig .tc .vmem S4096x640 .bf16) → arg5.IsWhole → (arg6 : Memref sig .tc .vmem S4096x640 .bf16) → arg6.IsWhole
    → (arg7 : Memref sig .tc .vmem S4096x768 .bf16) → arg7.IsWhole → (arg8 : Memref sig .tc .vmem S3584x640 .bf16) → arg8.IsWhole
    → (arg9 : Memref sig .tc .vmem S3584x640 .bf16) → arg9.IsWhole → (arg10 : Memref sig .tc .vmem S3584x768 .bf16) → arg10.IsWhole
    → DmaSems sig S3x3x4 → DmaSems sig S3x3x4 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7

end Cert.KernelIdeal.Run
-- ==== Proof.PartsA.lean ====
/-
# The products

The parts of the body that fill the partial sums, half by half, and send the first halves.
-/
module

public import proofs.«01_k».proof.Proof.Moves

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

set_option maxRecDepth 65536
set_option maxHeartbeats 400000

/-- The product tile in slot `n` of group `g`. -/
abbrev tl (m : (ℓ : Loc nD τ sig) → Buf (Elt F) ℓ) (ρ : Dev nD → PrngReg) (c : Dev nD) (g : Fin 3) (n : ℕ) : (⟨2, ![512, Wd g]⟩ : Shape).Idx → Elt F .bf16 :=
  tile g (xRows m ρ c g n) (wCols m ρ c g)

theorem pay14_13 (x : S512x512.Idx → Elt F .i8) (w : S512x640.Idx → Elt F .i8) : k0_pay14 (F := F) (k0_pay13 (F := F) x w) = tile 1 x w := rfl

/-! ## The half to be sent -/

@[reducible] def at4 : S := ⟨⟨.fill 0, 0, 0, 0⟩, ⟨.fill 0, 0, 0, 0⟩, ⟨.fill 0, 0, 0, 0⟩, 0⟩
@[reducible] def at5 : S := ⟨⟨.fill 0, 0, 0, 0⟩, ⟨.fill 0, 0, 0, 0⟩, ⟨.fill 1, 0, 0, 0⟩, 0⟩
@[reducible] def at6 : S := ⟨⟨.fill 0, 0, 0, 0⟩, ⟨.fill 0, 0, 0, 0⟩, ⟨.fill 3, 0, 0, 0⟩, 0⟩
@[reducible] def at7 : S := ⟨⟨.fill 0, 0, 0, 0⟩, ⟨.fill 0, 0, 0, 0⟩, ⟨.send 0 2, 2, 0, 0⟩, 0⟩
@[reducible] def at8 : S := ⟨⟨.fill 0, 0, 0, 0⟩, ⟨.fill 0, 0, 0, 0⟩, ⟨.send 0 4, 4, 0, 0⟩, 0⟩
@[reducible] def at9 : S := ⟨⟨.fill 1, 0, 0, 0⟩, ⟨.fill 0, 0, 0, 0⟩, ⟨.send 0 4, 4, 0, 0⟩, 0⟩
@[reducible] def at10 : S := ⟨⟨.fill 2, 0, 0, 0⟩, ⟨.fill 0, 0, 0, 0⟩, ⟨.send 0 4, 4, 0, 0⟩, 0⟩
@[reducible] def at11 : S := ⟨⟨.fill 4, 0, 0, 0⟩, ⟨.fill 0, 0, 0, 0⟩, ⟨.send 0 4, 4, 0, 0⟩, 0⟩
@[reducible] def at12 : S := ⟨⟨.send 0 2, 2, 0, 0⟩, ⟨.fill 0, 0, 0, 0⟩, ⟨.send 0 4, 4, 0, 0⟩, 0⟩
@[reducible] def at13 : S := ⟨⟨.send 0 4, 4, 0, 0⟩, ⟨.fill 0, 0, 0, 0⟩, ⟨.send 0 4, 4, 0, 0⟩, 0⟩
@[reducible] def at14 : S := ⟨⟨.send 0 4, 4, 0, 0⟩, ⟨.fill 1, 0, 0, 0⟩, ⟨.send 0 4, 4, 0, 0⟩, 0⟩
@[reducible] def at15 : S := ⟨⟨.send 0 4, 4, 0, 0⟩, ⟨.fill 3, 0, 0, 0⟩, ⟨.send 0 4, 4, 0, 0⟩, 0⟩
@[reducible] def at16 : S := ⟨⟨.send 0 4, 4, 0, 0⟩, ⟨.fill 4, 0, 0, 0⟩, ⟨.send 0 4, 4, 0, 0⟩, 0⟩
@[reducible] def at17 : S := ⟨⟨.send 0 4, 4, 0, 0⟩, ⟨.send 0 3, 3, 0, 0⟩, ⟨.send 0 4, 4, 0, 0⟩, 0⟩
@[reducible] def at18 : S := ⟨⟨.send 0 4, 4, 0, 0⟩, ⟨.send 0 4, 4, 0, 0⟩, ⟨.keep 1, 4, 0, 0⟩, 0⟩
@[reducible] def at19 : S := ⟨⟨.send 0 4, 4, 0, 0⟩, ⟨.send 0 4, 4, 0, 0⟩, ⟨.keep 3, 4, 0, 0⟩, 0⟩
@[reducible] def at20 : S := ⟨⟨.keep 0, 4, 0, 0⟩, ⟨.send 0 4, 4, 0, 0⟩, ⟨.acc 0 0, 4, 0, 0⟩, 0⟩
@[reducible] def at21 : S := ⟨⟨.keep 2, 4, 0, 0⟩, ⟨.send 0 4, 4, 0, 0⟩, ⟨.acc 0 0, 4, 0, 0⟩, 0⟩
@[reducible] def at22 : S := ⟨⟨.keep 3, 4, 0, 0⟩, ⟨.send 0 4, 4, 0, 0⟩, ⟨.acc 0 0, 4, 0, 0⟩, 0⟩
@[reducible] def at23 : S := ⟨⟨.acc 0 0, 4, 0, 0⟩, ⟨.keep 0, 4, 0, 0⟩, ⟨.acc 0 0, 4, 0, 0⟩, 0⟩
@[reducible] def at24 : S := ⟨⟨.acc 0 0, 4, 0, 0⟩, ⟨.keep 2, 4, 0, 0⟩, ⟨.acc 0 0, 4, 0, 0⟩, 0⟩
@[reducible] def at25 : S := ⟨⟨.acc 0 0, 4, 0, 0⟩, ⟨.keep 3, 4, 0, 0⟩, ⟨.acc 0 0, 4, 0, 0⟩, 0⟩
@[reducible] def at26 : S := ⟨⟨.acc 0 0, 4, 1, 0⟩, ⟨.acc 0 0, 4, 0, 0⟩, ⟨.acc 0 0, 4, 0, 0⟩, 0⟩

theorem part4 (a b d e : BitVec 32) :
    Run m ρ K c at4 (wh (k0_part4 (F := F)) c a b d e) at5 (fun v => v = tl m ρ c 2 (snd 2 0 c / 512 + 1)) := by
  rw [k0_part4_eq_skeleton]
  refine mv_fill 2 0 rfl (by decide) (off1_eq c 0) (off2_eq c 0) rfl rfl ?_
  refine Run.bind (step_x 2 _ (off1_eq c 1)) ?_
  rintro _ rfl
  refine Run.bind (step_w 2 rfl) ?_
  rintro _ rfl
  exact Run.bind (fill_peek 2 1 rfl (by decide) (off2_eq c 1)) fun _ _ => Run.ret rfl

theorem part5 (a : BitVec 32) :
    Run m ρ K c at5 (wh (k0_part5 (F := F)) c a (tl m ρ c 2 (snd 2 0 c / 512 + 1))) at6 (fun r => k0_pay5 r.1 = tl m ρ c 2 (snd 2 0 c / 512 + 3)) := by
  rw [k0_part5_eq_skeleton]
  refine Run.bind (fill_store 2 1 rfl (by decide) (off2_eq c 1) rfl) fun _ _ => ?_
  refine mv_fill 2 2 rfl (by decide) (off1_eq c 2) (off2_eq c 2) rfl rfl ?_
  refine Run.bind (step_x 2 _ (off1_eq c 3)) ?_
  rintro _ rfl
  refine Run.bind (step_w 2 rfl) ?_
  rintro _ rfl
  exact Run.ret rfl

theorem part6 (a b d e : BitVec 32) (v) (hv : k0_pay5 v = tl m ρ c 2 (snd 2 0 c / 512 + 3)) :
    Run m ρ K c at6 (wh (k0_part6 (F := F)) c a b v d e) at7 (fun _ => True) := by
  rw [k0_part6_eq_skeleton]
  refine Run.bind (fill_peek 2 3 rfl (by decide) (off2_eq c 3)) fun _ _ => ?_
  refine Run.bind (fill_store 2 3 rfl (by decide) (off2_eq c 3) hv) fun _ _ => ?_
  refine Run.turn 2 rfl _ (fill_send 2) ?_
  refine Run.bind (send_at 2 0 rfl rfl rfl (by decide) (dev4_eq c) (off3_eq c 0) rfl rfl rfl) fun _ _ => ?_
  exact Run.bind (send_at 2 1 rfl rfl rfl (by decide) (dev5_eq c) (off3_eq c 1) rfl rfl rfl) fun _ _ => Run.ret trivial

theorem part7 (a b d : BitVec 32) : Run m ρ K c at7 (wh (k0_part7 (F := F)) c a b d) at8 (fun _ => True) := by
  rw [k0_part7_eq_skeleton]
  refine Run.bind (send_at 2 2 rfl rfl rfl (by decide) (dev6_eq c) (off3_eq c 2) rfl rfl rfl) fun _ _ => ?_
  exact Run.bind (send_at 2 3 rfl rfl rfl (by decide) (dev7_eq c) (off3_eq c 3) rfl rfl rfl) fun _ _ => Run.ret trivial

theorem part8 (a b d e f) : Run m ρ K c at8 (wh (k0_part8 (F := F)) c a b d e f) at9
    (fun r => k0_pay9 (F := F) r.2.1 r.2.2 = tl m ρ c 0 (snd 0 0 c / 512 + 1)) := by
  rw [k0_part8_eq_skeleton]
  refine mv_fill 0 0 rfl (by decide) (off4_eq c 0) (off5_eq c 0) rfl rfl ?_
  refine Run.bind (step_x 0 _ (off4_eq c 1)) ?_
  rintro _ rfl
  refine Run.bind (step_w 0 rfl) ?_
  rintro _ rfl
  exact Run.ret rfl

theorem part9 (a b) (v w) (hv : k0_pay9 (F := F) v w = tl m ρ c 0 (snd 0 0 c / 512 + 1)) :
    Run m ρ K c at9 (wh (k0_part9 (F := F)) c a b v w) at10 (fun r => k0_pay11 r = tl m ρ c 0 (snd 0 0 c / 512 + 2)) := by
  rw [k0_part9_eq_skeleton]
  refine Run.bind (fill_peek 0 1 rfl (by decide) (off5_eq c 1)) fun _ _ => ?_
  refine Run.bind (fill_store 0 1 rfl (by decide) (off5_eq c 1) hv) fun _ _ => ?_
  refine Run.bind (step_x 0 _ (off4_eq c 2)) ?_
  rintro _ rfl
  refine Run.bind (step_w 0 rfl) ?_
  rintro _ rfl
  exact Run.bind (fill_peek 0 2 rfl (by decide) (off5_eq c 2)) fun _ _ => Run.ret rfl

theorem part10 (a) (v) (hv : k0_pay11 v = tl m ρ c 0 (snd 0 0 c / 512 + 2)) :
    Run m ρ K c at10 (wh (k0_part10 (F := F)) c a v) at11 (fun _ => True) := by
  rw [k0_part10_eq_skeleton]
  refine Run.bind (fill_store 0 2 rfl (by decide) (off5_eq c 2) hv) fun _ _ => ?_
  exact mv_fill 0 3 rfl (by decide) (off4_eq c 3) (off5_eq c 3) rfl rfl (Run.ret trivial)

theorem part11 (a b) : Run m ρ K c at11 (wh (k0_part11 (F := F)) c a b) at12 (fun _ => True) := by
  rw [k0_part11_eq_skeleton]
  refine Run.turn 0 rfl _ (fill_send 0) ?_
  refine Run.bind (send_at 0 0 rfl rfl rfl (by decide) (dev8_eq c) (off6_eq c 0) rfl rfl rfl) fun _ _ => ?_
  exact Run.bind (send_at 0 1 rfl rfl rfl (by decide) (dev9_eq c) (off6_eq c 1) rfl rfl rfl) fun _ _ => Run.ret trivial

theorem part12 (a b d) : Run m ρ K c at12 (wh (k0_part12 (F := F)) c a b d) at13
    (fun r => k0_pay14 (F := F) r.2 = tl m ρ c 1 (snd 1 0 c / 512 + 0)) := by
  rw [k0_part12_eq_skeleton]
  refine Run.bind (send_at 0 2 rfl rfl rfl (by decide) (dev10_eq c) (off6_eq c 2) rfl rfl rfl) fun _ _ => ?_
  refine Run.bind (send_at 0 3 rfl rfl rfl (by decide) (dev11_eq c) (off6_eq c 3) rfl rfl rfl) fun _ _ => ?_
  refine Run.bind (step_x 1 _ (off7_eq c 0)) ?_
  rintro _ rfl
  refine Run.bind (step_w 1 rfl) ?_
  rintro _ rfl
  refine Run.ret ?_
  dsimp only
  exact pay14_13 (xRows m ρ c 1 (snd 1 0 c / 512 + 0)) (wCols m ρ c 1)

theorem part13 (a b) (v) (hv : k0_pay14 (F := F) v = tl m ρ c 1 (snd 1 0 c / 512 + 0)) :
    Run m ρ K c at13 (wh (k0_part13 (F := F)) c a b v) at14 (fun r => k0_pay16 r.1 = tl m ρ c 1 (snd 1 0 c / 512 + 1)) := by
  rw [k0_part13_eq_skeleton]
  refine Run.bind (fill_peek 1 0 rfl (by decide) (off8_eq c 0)) fun _ _ => ?_
  refine Run.bind (fill_store 1 0 rfl (by decide) (off8_eq c 0) hv) fun _ _ => ?_
  refine Run.bind (step_x 1 _ (off7_eq c 1)) ?_
  rintro _ rfl
  refine Run.bind (step_w 1 rfl) ?_
  rintro _ rfl
  exact Run.bind (fill_peek 1 1 rfl (by decide) (off8_eq c 1)) fun _ _ => Run.ret rfl

theorem part14 (a) (v w) (hv : k0_pay16 v = tl m ρ c 1 (snd 1 0 c / 512 + 1)) :
    Run m ρ K c at14 (wh (k0_part14 (F := F)) c a v w) at15 (fun _ => True) := by
  rw [k0_part14_eq_skeleton]
  refine Run.bind (fill_store 1 1 rfl (by decide) (off8_eq c 1) hv) fun _ _ => ?_
  exact mv_fill 1 2 rfl (by decide) (off7_eq c 2) (off8_eq c 2) rfl rfl (Run.ret trivial)

theorem part15 (a b d e f) : Run m ρ K c at15 (wh (k0_part15 (F := F)) c a b d e f) at16 (fun _ => True) := by
  rw [k0_part15_eq_skeleton]
  exact mv_fill 1 3 rfl (by decide) (off7_eq c 3) (off8_eq c 3) rfl rfl (Run.ret trivial)

theorem part16 (a b d e) : Run m ρ K c at16 (wh (k0_part16 (F := F)) c a b d e) at17 (fun _ => True) := by
  rw [k0_part16_eq_skeleton]
  refine Run.turn 1 rfl _ (fill_send 1) ?_
  refine Run.bind (send_at 1 0 rfl rfl rfl (by decide) (dev12_eq c) (off9_eq c 0) rfl rfl rfl) fun _ _ => ?_
  refine Run.bind (send_at 1 1 rfl rfl rfl (by decide) (dev13_eq c) (off9_eq c 1) rfl rfl rfl) fun _ _ => ?_
  exact Run.bind (send_at 1 2 rfl rfl rfl (by decide) (dev14_eq c) (off9_eq c 2) rfl rfl rfl) fun _ _ => Run.ret trivial

/-! ## The half kept -/

theorem part17 (a b) : Run m ρ K c at17 (wh (k0_part17 (F := F)) c a b) at18
    (fun r => k0_pay21 r (wCols m ρ c 2) = tl m ρ c 2 (own 2 0 c / 512 + 1)) := by
  rw [k0_part17_eq_skeleton]
  refine Run.bind (send_at 1 3 rfl rfl rfl (by decide) (dev15_eq c) (off9_eq c 3) rfl rfl rfl) fun _ _ => ?_
  refine Run.turn 2 rfl _ (send_keep 2) ?_
  refine mv_keep 2 0 rfl (by decide) (off10_eq c 0) (off11_eq c 0) rfl rfl ?_
  refine Run.bind (step_x 2 _ (off10_eq c 1)) ?_
  rintro _ rfl
  exact Run.ret rfl

theorem part18 (a) (v) (hv : k0_pay21 v (wCols m ρ c 2) = tl m ρ c 2 (own 2 0 c / 512 + 1)) :
    Run m ρ K c at18 (wh (k0_part18 (F := F)) c a v) at19 (fun _ => True) := by
  rw [k0_part18_eq_skeleton]
  refine Run.bind (step_w 2 rfl) ?_
  rintro _ rfl
  refine Run.bind (keep_peek 2 1 rfl (by decide) (off11_eq c 1)) fun _ _ => ?_
  refine Run.bind (keep_store 2 1 rfl (by decide) (off11_eq c 1) hv) fun _ _ => ?_
  exact mv_keep 2 2 rfl (by decide) (off10_eq c 2) (off11_eq c 2) rfl rfl (Run.ret trivial)

theorem part19 (a b) : Run m ρ K c at19 (wh (k0_part19 (F := F)) c a b) at20
    (fun r => k0_pay25 r.1 = tl m ρ c 0 (own 0 0 c / 512 + 0)) := by
  rw [k0_part19_eq_skeleton]
  refine mv_keep 2 3 rfl (by decide) (off10_eq c 3) (off11_eq c 3) rfl rfl ?_
  refine Run.turn 2 rfl _ (keep_acc 2) ?_
  refine Run.turn 0 rfl _ (send_keep 0) ?_
  refine Run.bind (step_x 0 _ (off12_eq c 0)) ?_
  rintro _ rfl
  refine Run.bind (step_w 0 rfl) ?_
  rintro _ rfl
  exact Run.ret rfl

theorem part20 (a) (v) (b) (hv : k0_pay25 v = tl m ρ c 0 (own 0 0 c / 512 + 0)) :
    Run m ρ K c at20 (wh (k0_part20 (F := F)) c a v b) at21 (fun _ => True) := by
  rw [k0_part20_eq_skeleton]
  refine Run.bind (keep_peek 0 0 rfl (by decide) (off13_eq c 0)) fun _ _ => ?_
  refine Run.bind (keep_store 0 0 rfl (by decide) (off13_eq c 0) hv) fun _ _ => ?_
  exact mv_keep 0 1 rfl (by decide) (off12_eq c 1) (off13_eq c 1) rfl rfl (Run.ret trivial)

theorem part21 (a b d e) : Run m ρ K c at21 (wh (k0_part21 (F := F)) c a b d e) at22 (fun _ => True) := by
  rw [k0_part21_eq_skeleton]
  exact mv_keep 0 2 rfl (by decide) (off12_eq c 2) (off13_eq c 2) rfl rfl (Run.ret trivial)

theorem part22 (a b) : Run m ρ K c at22 (wh (k0_part22 (F := F)) c a b) at23
    (fun r => k0_pay30 r.1 = tl m ρ c 1 (own 1 0 c / 512 + 0)) := by
  rw [k0_part22_eq_skeleton]
  refine mv_keep 0 3 rfl (by decide) (off12_eq c 3) (off13_eq c 3) rfl rfl ?_
  refine Run.turn 0 rfl _ (keep_acc 0) ?_
  refine Run.turn 1 rfl _ (send_keep 1) ?_
  refine Run.bind (step_x 1 _ (off14_eq c 0)) ?_
  rintro _ rfl
  refine Run.bind (step_w 1 rfl) ?_
  rintro _ rfl
  exact Run.ret rfl

theorem part23 (a) (v) (b d) (hv : k0_pay30 v = tl m ρ c 1 (own 1 0 c / 512 + 0)) :
    Run m ρ K c at23 (wh (k0_part23 (F := F)) c a v b d) at24 (fun _ => True) := by
  rw [k0_part23_eq_skeleton]
  refine Run.bind (keep_peek 1 0 rfl (by decide) (off15_eq c 0)) fun _ _ => ?_
  refine Run.bind (keep_store 1 0 rfl (by decide) (off15_eq c 0) hv) fun _ _ => ?_
  exact mv_keep 1 1 rfl (by decide) (off14_eq c 1) (off15_eq c 1) rfl rfl (Run.ret trivial)

theorem part24 (a b d) : Run m ρ K c at24 (wh (k0_part24 (F := F)) c a b d) at25 (fun _ => True) := by
  rw [k0_part24_eq_skeleton]
  exact mv_keep 1 2 rfl (by decide) (off14_eq c 2) (off15_eq c 2) rfl rfl (Run.ret trivial)

theorem part25 (a b d e f g h i j) : Run m ρ K c at25 (wh (k0_part25 (F := F)) c a b d e f g h i j) at26
    (fun r => r.1 = scale m ρ c) := by
  rw [k0_part25_eq_skeleton]
  refine mv_keep 1 3 rfl (by decide) (off14_eq c 3) (off15_eq c 3) rfl rfl ?_
  refine Run.turn 1 rfl _ (keep_acc 1) ?_
  refine Run.bind step_sx ?_
  rintro _ rfl
  refine Run.bind step_sw ?_
  rintro _ rfl
  exact Run.bind (recv_at 0 0 rfl rfl (by decide) rfl rfl) fun _ _ => Run.ret rfl

end Cert.KernelIdeal.Run
-- ==== Proof.PartsB.lean ====
/-
# The sums

The parts of the body that add what arrives in the first two stages and send half of it on.
-/
module

public import proofs.«01_k».proof.Proof.PartsA

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

set_option maxRecDepth 65536
set_option maxHeartbeats 400000

@[reducible] def at27 : S := ⟨⟨.acc 0 1, 4, 1, 0⟩, ⟨.acc 0 1, 4, 1, 0⟩, ⟨.acc 0 0, 4, 0, 0⟩, 0⟩
@[reducible] def at28 : S := ⟨⟨.acc 0 1, 4, 2, 0⟩, ⟨.acc 0 1, 4, 1, 0⟩, ⟨.acc 0 1, 4, 1, 0⟩, 0⟩
@[reducible] def at29 : S := ⟨⟨.acc 0 2, 4, 2, 0⟩, ⟨.acc 0 2, 4, 2, 0⟩, ⟨.acc 0 1, 4, 1, 0⟩, 0⟩
@[reducible] def at30 : S := ⟨⟨.acc 0 2, 4, 3, 0⟩, ⟨.acc 0 2, 4, 2, 0⟩, ⟨.acc 0 2, 4, 2, 0⟩, 0⟩
@[reducible] def at31 : S := ⟨⟨.acc 0 3, 4, 3, 0⟩, ⟨.acc 0 3, 4, 3, 0⟩, ⟨.acc 0 2, 4, 2, 0⟩, 0⟩
@[reducible] def at32 : S := ⟨⟨.send 1 0, 4, 4, 0⟩, ⟨.acc 0 3, 4, 3, 0⟩, ⟨.acc 0 3, 4, 3, 0⟩, 0⟩
@[reducible] def at33 : S := ⟨⟨.acc 1 0, 6, 4, 0⟩, ⟨.acc 0 3, 4, 3, 0⟩, ⟨.acc 0 3, 4, 3, 0⟩, 0⟩
@[reducible] def at34 : S := ⟨⟨.acc 1 0, 6, 4, 0⟩, ⟨.send 1 1, 5, 4, 0⟩, ⟨.acc 0 3, 4, 3, 0⟩, 0⟩
@[reducible] def at35 : S := ⟨⟨.acc 1 0, 6, 4, 0⟩, ⟨.acc 1 0, 6, 4, 0⟩, ⟨.send 1 0, 4, 4, 0⟩, 0⟩
@[reducible] def at36 : S := ⟨⟨.acc 1 0, 6, 4, 0⟩, ⟨.acc 1 0, 6, 4, 0⟩, ⟨.acc 1 0, 6, 4, 0⟩, 0⟩
@[reducible] def at37 : S := ⟨⟨.acc 1 1, 6, 5, 0⟩, ⟨.acc 1 0, 6, 5, 0⟩, ⟨.acc 1 0, 6, 4, 0⟩, 0⟩
@[reducible] def at38 : S := ⟨⟨.acc 1 1, 6, 5, 0⟩, ⟨.acc 1 1, 6, 5, 0⟩, ⟨.acc 1 1, 6, 5, 0⟩, 0⟩
@[reducible] def at39 : S := ⟨⟨.send 2 1, 7, 6, 0⟩, ⟨.acc 1 1, 6, 5, 0⟩, ⟨.acc 1 1, 6, 5, 0⟩, 0⟩
@[reducible] def at40 : S := ⟨⟨.send 2 4, 10, 6, 0⟩, ⟨.acc 1 1, 6, 5, 0⟩, ⟨.acc 1 1, 6, 5, 0⟩, 0⟩
@[reducible] def at41 : S := ⟨⟨.send 2 4, 10, 6, 0⟩, ⟨.send 2 0, 6, 6, 0⟩, ⟨.acc 1 1, 6, 5, 0⟩, 0⟩
@[reducible] def at42 : S := ⟨⟨.send 2 4, 10, 6, 0⟩, ⟨.send 2 3, 9, 6, 0⟩, ⟨.acc 1 1, 6, 5, 0⟩, 0⟩
@[reducible] def at43 : S := ⟨⟨.send 2 4, 10, 6, 0⟩, ⟨.send 2 4, 10, 6, 0⟩, ⟨.send 2 0, 6, 6, 0⟩, 0⟩
@[reducible] def at44 : S := ⟨⟨.send 2 4, 10, 6, 0⟩, ⟨.send 2 4, 10, 6, 0⟩, ⟨.send 2 2, 8, 6, 0⟩, 0⟩

/-! ## First stage -/

theorem part26 (a b d e f) : Run m ρ K c at26 (wh (k0_part26 (F := F)) c a b d e f) at27 (fun _ => True) := by
  rw [k0_part26_eq_skeleton]
  refine Run.bind (acc_mine 0 0 (by decide) rfl (off16_eq c 0)) ?_
  rintro _ rfl
  refine Run.bind (got_theirs 0 0 rfl (by decide) rfl) ?_
  rintro _ rfl
  refine Run.bind (acc_mine 0 0 (by decide) rfl (off16_eq c 0)) fun _ _ => ?_
  refine Run.bind (acc_sum 0 0 (by decide) rfl (off16_eq c 0) (pay35_apply _ _)) fun _ _ => ?_
  exact mv_acc 1 0 (by decide) rfl rfl (by decide) (off17_eq c 0) rfl rfl pay35_apply (Run.ret trivial)

theorem part27 (a b d e f) : Run m ρ K c at27 (wh (k0_part27 (F := F)) c a b d e f) at28 (fun r => r.2 = k0_pay38 (mineV m ρ c 0 1 512)) := by
  rw [k0_part27_eq_skeleton]
  refine mv_acc 2 0 (by decide) rfl rfl (by decide) (off18_eq c 0) rfl rfl pay37_apply ?_
  refine Run.bind (recv_at 0 1 rfl rfl (by decide) rfl rfl) fun _ _ => ?_
  refine Run.bind (acc_mine 0 1 (by decide) rfl (off16_eq c 1)) ?_
  rintro _ rfl
  exact Run.ret rfl

theorem part28 (a b d e f g) : Run m ρ K c at28 (wh (k0_part28 (F := F)) c a b d e f g (k0_pay38 (mineV m ρ c 0 1 512))) at29 (fun _ => True) := by
  rw [k0_part28_eq_skeleton]
  refine Run.bind (got_theirs 0 1 rfl (by decide) rfl) ?_
  rintro _ rfl
  refine Run.bind (acc_mine 0 1 (by decide) rfl (off16_eq c 1)) fun _ _ => ?_
  refine Run.bind (acc_sum 0 1 (by decide) rfl (off16_eq c 1) (pay35_apply _ _)) fun _ _ => ?_
  exact mv_acc 1 1 (by decide) rfl rfl (by decide) (off17_eq c 1) rfl rfl pay35_apply (Run.ret trivial)

theorem part29 (a b d e) : Run m ρ K c at29 (wh (k0_part29 (F := F)) c a b d e) at30
    (fun r => ∀ j, k0_pay43 r j = accS (mineV m ρ c 0 2 512 j) (theirV m ρ c 0 2 512 j)) := by
  rw [k0_part29_eq_skeleton]
  refine mv_acc 2 1 (by decide) rfl rfl (by decide) (off18_eq c 1) rfl rfl pay37_apply ?_
  refine Run.bind (recv_at 0 2 rfl rfl (by decide) rfl rfl) fun _ _ => ?_
  refine Run.bind (acc_mine 0 2 (by decide) rfl (off16_eq c 2)) ?_
  rintro _ rfl
  refine Run.bind (got_theirs 0 2 rfl (by decide) rfl) ?_
  rintro _ rfl
  exact Run.ret (pay35_apply _ _)

theorem part30 (a b d e f) (v) (hv : ∀ j, k0_pay43 v j = accS (mineV m ρ c 0 2 512 j) (theirV m ρ c 0 2 512 j)) :
    Run m ρ K c at30 (wh (k0_part30 (F := F)) c a b d e f v) at31 (fun _ => True) := by
  rw [k0_part30_eq_skeleton]
  refine Run.bind (acc_mine 0 2 (by decide) rfl (off16_eq c 2)) fun _ _ => ?_
  refine Run.bind (acc_sum 0 2 (by decide) rfl (off16_eq c 2) hv) fun _ _ => ?_
  exact mv_acc 1 2 (by decide) rfl rfl (by decide) (off17_eq c 2) rfl rfl pay35_apply (Run.ret trivial)

theorem part31 (a b d e f) : Run m ρ K c at31 (wh (k0_part31 (F := F)) c a b d e f) at32 (fun _ => True) := by
  rw [k0_part31_eq_skeleton]
  refine mv_acc 2 2 (by decide) rfl rfl (by decide) (off18_eq c 2) rfl rfl pay37_apply ?_
  refine mv_acc 0 3 (by decide) rfl rfl (by decide) (off16_eq c 3) rfl rfl pay35_apply ?_
  exact Run.turn 0 rfl _ (acc_send0 0) (Run.ret trivial)

theorem part32 (a b d e f) : Run m ρ K c at32 (wh (k0_part32 (F := F)) c a b d e f) at33 (fun _ => True) := by
  rw [k0_part32_eq_skeleton]
  refine Run.bind (send_at 0 4 rfl rfl rfl (by decide) (dev16_eq c) (off19_eq c 0) rfl rfl rfl) fun _ _ => ?_
  refine Run.bind (send_at 0 5 rfl rfl rfl (by decide) (dev17_eq c) (off19_eq c 1) rfl rfl rfl) fun _ _ => ?_
  exact Run.turn 0 rfl _ (send_acc1 0) (Run.ret trivial)

theorem part33 (a b d e) : Run m ρ K c at33 (wh (k0_part33 (F := F)) c a b d e) at34 (fun _ => True) := by
  rw [k0_part33_eq_skeleton]
  refine mv_acc 1 3 (by decide) rfl rfl (by decide) (off17_eq c 3) rfl rfl pay35_apply ?_
  refine Run.turn 1 rfl _ (acc_send0 1) ?_
  exact Run.bind (send_at 1 4 rfl rfl rfl (by decide) (dev18_eq c) (off20_eq c 0) rfl rfl rfl) fun _ _ => Run.ret trivial

theorem part34 (a b d e) : Run m ρ K c at34 (wh (k0_part34 (F := F)) c a b d e) at35 (fun _ => True) := by
  rw [k0_part34_eq_skeleton]
  refine Run.bind (send_at 1 5 rfl rfl rfl (by decide) (dev19_eq c) (off20_eq c 1) rfl rfl rfl) fun _ _ => ?_
  refine Run.turn 1 rfl _ (send_acc1 1) ?_
  refine mv_acc 2 3 (by decide) rfl rfl (by decide) (off18_eq c 3) rfl rfl pay37_apply ?_
  exact Run.turn 2 rfl _ (acc_send0 2) (Run.ret trivial)

theorem part35 (a b d e f g) : Run m ρ K c at35 (wh (k0_part35 (F := F)) c a b d e f g) at36 (fun _ => True) := by
  rw [k0_part35_eq_skeleton]
  refine Run.bind (send_at 2 4 rfl rfl rfl (by decide) (dev20_eq c) (off21_eq c 0) rfl rfl rfl) fun _ _ => ?_
  refine Run.bind (send_at 2 5 rfl rfl rfl (by decide) (dev21_eq c) (off21_eq c 1) rfl rfl rfl) fun _ _ => ?_
  exact Run.turn 2 rfl _ (send_acc1 2) (Run.ret trivial)

/-! ## Second stage -/

theorem part36 (a b d e f) : Run m ρ K c at36 (wh (k0_part36 (F := F)) c a b d e f) at37
    (fun r => ∀ j, k0_pay51 r.2 j = accS (mineV m ρ c 1 4 512 j) (theirV m ρ c 1 4 512 j)) := by
  rw [k0_part36_eq_skeleton]
  refine mv_acc 0 4 (by decide) rfl rfl (by decide) (off22_eq c 0) rfl rfl pay35_apply ?_
  refine Run.bind (recv_at 1 4 rfl rfl (by decide) rfl rfl) fun _ _ => ?_
  refine Run.bind (acc_mine 1 4 (by decide) rfl (off23_eq c 0)) ?_
  rintro _ rfl
  refine Run.bind (got_theirs 1 4 rfl (by decide) rfl) ?_
  rintro _ rfl
  exact Run.ret (pay35_apply _ _)

theorem part37 (a b d e f g) (v) (hv : ∀ j, k0_pay51 v j = accS (mineV m ρ c 1 4 512 j) (theirV m ρ c 1 4 512 j)) :
    Run m ρ K c at37 (wh (k0_part37 (F := F)) c a b d e f g v) at38 (fun _ => True) := by
  rw [k0_part37_eq_skeleton]
  refine Run.bind (acc_mine 1 4 (by decide) rfl (off23_eq c 0)) fun _ _ => ?_
  refine Run.bind (acc_sum 1 4 (by decide) rfl (off23_eq c 0) hv) fun _ _ => ?_
  exact mv_acc 2 4 (by decide) rfl rfl (by decide) (off24_eq c 0) rfl rfl pay37_apply (Run.ret trivial)

theorem part38 (a b d) : Run m ρ K c at38 (wh (k0_part38 (F := F)) c a b d) at39 (fun _ => True) := by
  rw [k0_part38_eq_skeleton]
  refine mv_acc 0 5 (by decide) rfl rfl (by decide) (off22_eq c 1) rfl rfl pay35_apply ?_
  refine Run.turn 0 rfl _ (acc_send1 0) ?_
  exact Run.bind (send_at 0 6 rfl rfl rfl (by decide) (dev22_eq c) (off25_eq c 0) rfl rfl rfl) fun _ _ => Run.ret trivial

theorem part39 (a b d) : Run m ρ K c at39 (wh (k0_part39 (F := F)) c a b d) at40 (fun _ => True) := by
  rw [k0_part39_eq_skeleton]
  refine Run.bind (send_at 0 7 rfl rfl rfl (by decide) (dev23_eq c) (off25_eq c 1) rfl rfl rfl) fun _ _ => ?_
  refine Run.bind (send_at 0 8 rfl rfl rfl (by decide) (dev24_eq c) (off25_eq c 2) rfl rfl rfl) fun _ _ => ?_
  exact Run.bind (send_at 0 9 rfl rfl rfl (by decide) (dev25_eq c) (off25_eq c 3) rfl rfl rfl) fun _ _ => Run.ret trivial

theorem part40 (a b d e) : Run m ρ K c at40 (wh (k0_part40 (F := F)) c a b d e) at41 (fun _ => True) := by
  rw [k0_part40_eq_skeleton]
  refine mv_acc 1 5 (by decide) rfl rfl (by decide) (off23_eq c 1) rfl rfl pay35_apply ?_
  exact Run.turn 1 rfl _ (acc_send1 1) (Run.ret trivial)

theorem part41 (a b) : Run m ρ K c at41 (wh (k0_part41 (F := F)) c a b) at42 (fun _ => True) := by
  rw [k0_part41_eq_skeleton]
  refine Run.bind (send_at 1 6 rfl rfl rfl (by decide) (dev26_eq c) (off26_eq c 0) rfl rfl rfl) fun _ _ => ?_
  refine Run.bind (send_at 1 7 rfl rfl rfl (by decide) (dev27_eq c) (off26_eq c 1) rfl rfl rfl) fun _ _ => ?_
  exact Run.bind (send_at 1 8 rfl rfl rfl (by decide) (dev28_eq c) (off26_eq c 2) rfl rfl rfl) fun _ _ => Run.ret trivial

theorem part42 (a b d e f) : Run m ρ K c at42 (wh (k0_part42 (F := F)) c a b d e f) at43 (fun _ => True) := by
  rw [k0_part42_eq_skeleton]
  refine Run.bind (send_at 1 9 rfl rfl rfl (by decide) (dev29_eq c) (off26_eq c 3) rfl rfl rfl) fun _ _ => ?_
  refine mv_acc 2 5 (by decide) rfl rfl (by decide) (off24_eq c 1) rfl rfl pay37_apply ?_
  exact Run.turn 2 rfl _ (acc_send1 2) (Run.ret trivial)

theorem part43 (a b) : Run m ρ K c at43 (wh (k0_part43 (F := F)) c a b) at44 (fun _ => True) := by
  rw [k0_part43_eq_skeleton]
  refine Run.bind (send_at 2 6 rfl rfl rfl (by decide) (dev30_eq c) (off27_eq c 0) rfl rfl rfl) fun _ _ => ?_
  exact Run.bind (send_at 2 7 rfl rfl rfl (by decide) (dev31_eq c) (off27_eq c 1) rfl rfl rfl) fun _ _ => Run.ret trivial

end Cert.KernelIdeal.Run
-- ==== Proof.PartsC.lean ====
/-
# The result

The parts of the body that store the result and wait for the sends.
-/
module

public import proofs.«01_k».proof.Proof.PartsB

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

set_option maxRecDepth 65536
set_option maxHeartbeats 400000

/-- The state in the last stage: the messages received in each group, and the tiles of the result stored. -/
@[reducible] def fin (a b d o : ℕ) : S := ⟨⟨.send 2 4, 10, a, 0⟩, ⟨.send 2 4, 10, b, 0⟩, ⟨.send 2 4, 10, d, 0⟩, o⟩
/-- The state while the sends are waited for: the sends waited for in each group. -/
@[reducible] def out (a b d : ℕ) : S := ⟨⟨.send 2 4, 10, 10, a⟩, ⟨.send 2 4, 10, 10, b⟩, ⟨.send 2 4, 10, 10, d⟩, 12⟩

/-! ## The last stage -/

theorem part44 (a b s d e f) : Run m ρ K c at44 (wh (k0_part44 (F := F)) c a b s d e f) (fin 7 6 6 0)
    (fun r => s = scale m ρ c → ∀ j, k0_pay57 r.1 r.2 j = outV m ρ c (128 * 0 + (j 0).val) (c0 0 + (j 1).val)) := by
  rw [k0_part44_eq_skeleton]
  refine Run.bind (send_at 2 8 rfl rfl rfl (by decide) (dev32_eq c) (off27_eq c 2) rfl rfl rfl) fun _ _ => ?_
  refine Run.bind (send_at 2 9 rfl rfl rfl (by decide) (dev33_eq c) (off27_eq c 3) rfl rfl rfl) fun _ _ => ?_
  refine Run.bind (recv_at 0 6 rfl rfl (by decide) rfl rfl) fun _ _ => ?_
  refine Run.bind (fin_mine 0 6 rfl rfl (off28_eq c 0)) ?_
  rintro _ rfl
  refine Run.bind (got_theirs 0 6 rfl (by decide) rfl) ?_
  rintro _ rfl
  refine Run.ret fun hs j => ?_
  subst hs
  exact (pay58_apply _ _ _ j).trans (fin_val 0 6 rfl j)

theorem part45 (a b d e f) (v w) (hv : ∀ j, k0_pay57 v w j = outV m ρ c (128 * 0 + (j 0).val) (c0 0 + (j 1).val)) :
    Run m ρ K c (fin 7 6 6 0) (wh (k0_part45 (F := F)) c a b (scale m ρ c) d e f v w) (fin 7 7 6 2) (fun _ => True) := by
  rw [k0_part45_eq_skeleton]
  refine Run.bind (step_outload 0) fun _ _ => ?_
  refine Run.bind (step_outstore 0 0 rfl rfl hv) fun _ _ => ?_
  exact mv_fin 1 6 rfl rfl rfl (by decide) rfl (off29_eq c 0) rfl rfl rfl (pay58_apply _) (Run.ret trivial)

theorem part46 (a d e f) : Run m ρ K c (fin 7 7 6 2) (wh (k0_part46 (F := F)) c a (scale m ρ c) d e f) (fin 8 7 7 3)
    (fun r => ∀ j, k0_pay61 r.1 r.2 j = outV m ρ c (128 * 1 + (j 0).val) (c0 0 + (j 1).val)) := by
  rw [k0_part46_eq_skeleton]
  refine mv_fin 2 6 rfl rfl rfl (by decide) rfl (off30_eq c 0) rfl rfl rfl (pay59_apply _) ?_
  refine Run.bind (recv_at 0 7 rfl rfl (by decide) rfl rfl) fun _ _ => ?_
  refine Run.bind (fin_mine 0 7 rfl rfl (off28_eq c 1)) ?_
  rintro _ rfl
  refine Run.bind (got_theirs 0 7 rfl (by decide) rfl) ?_
  rintro _ rfl
  exact Run.ret fun j => (pay58_apply _ _ _ j).trans (fin_val 0 7 rfl j)

theorem part47 (a b d e f) (v w) (hv : ∀ j, k0_pay61 v w j = outV m ρ c (128 * 1 + (j 0).val) (c0 0 + (j 1).val)) :
    Run m ρ K c (fin 8 7 7 3) (wh (k0_part47 (F := F)) c a b (scale m ρ c) d e f v w) (fin 8 8 7 5) (fun _ => True) := by
  rw [k0_part47_eq_skeleton]
  refine Run.bind (step_outload 0) fun _ _ => ?_
  refine Run.bind (step_outstore 0 1 rfl rfl hv) fun _ _ => ?_
  exact mv_fin 1 7 rfl rfl rfl (by decide) rfl (off29_eq c 1) rfl rfl rfl (pay58_apply _) (Run.ret trivial)

theorem part48 (a d e f) : Run m ρ K c (fin 8 8 7 5) (wh (k0_part48 (F := F)) c a (scale m ρ c) d e f) (fin 9 8 8 6)
    (fun r => ∀ j, k0_pay65 r.1 r.2 j = outV m ρ c (128 * 2 + (j 0).val) (c0 0 + (j 1).val)) := by
  rw [k0_part48_eq_skeleton]
  refine mv_fin 2 7 rfl rfl rfl (by decide) rfl (off30_eq c 1) rfl rfl rfl (pay59_apply _) ?_
  refine Run.bind (recv_at 0 8 rfl rfl (by decide) rfl rfl) fun _ _ => ?_
  refine Run.bind (fin_mine 0 8 rfl rfl (off28_eq c 2)) ?_
  rintro _ rfl
  refine Run.bind (got_theirs 0 8 rfl (by decide) rfl) ?_
  rintro _ rfl
  exact Run.ret fun j => (pay58_apply _ _ _ j).trans (fin_val 0 8 rfl j)

theorem part49 (a b d e f) (v w) (hv : ∀ j, k0_pay65 v w j = outV m ρ c (128 * 2 + (j 0).val) (c0 0 + (j 1).val)) :
    Run m ρ K c (fin 9 8 8 6) (wh (k0_part49 (F := F)) c a b (scale m ρ c) d e f v w) (fin 9 9 8 8) (fun _ => True) := by
  rw [k0_part49_eq_skeleton]
  refine Run.bind (step_outload 0) fun _ _ => ?_
  refine Run.bind (step_outstore 0 2 rfl rfl hv) fun _ _ => ?_
  exact mv_fin 1 8 rfl rfl rfl (by decide) rfl (off29_eq c 2) rfl rfl rfl (pay58_apply _) (Run.ret trivial)

theorem part50 (a d e f) : Run m ρ K c (fin 9 9 8 8) (wh (k0_part50 (F := F)) c a (scale m ρ c) d e f) (fin 10 9 9 9)
    (fun r => ∀ j, k0_pay69 r.1 r.2 j = outV m ρ c (128 * 3 + (j 0).val) (c0 0 + (j 1).val)) := by
  rw [k0_part50_eq_skeleton]
  refine mv_fin 2 8 rfl rfl rfl (by decide) rfl (off30_eq c 2) rfl rfl rfl (pay59_apply _) ?_
  refine Run.bind (recv_at 0 9 rfl rfl (by decide) rfl rfl) fun _ _ => ?_
  refine Run.bind (fin_mine 0 9 rfl rfl (off28_eq c 3)) ?_
  rintro _ rfl
  refine Run.bind (got_theirs 0 9 rfl (by decide) rfl) ?_
  rintro _ rfl
  exact Run.ret fun j => (pay58_apply _ _ _ j).trans (fin_val 0 9 rfl j)

theorem part51 (a b d e f) (v w) (hv : ∀ j, k0_pay69 v w j = outV m ρ c (128 * 3 + (j 0).val) (c0 0 + (j 1).val)) :
    Run m ρ K c (fin 10 9 9 9) (wh (k0_part51 (F := F)) c a b (scale m ρ c) d e f v w) (fin 10 10 9 11) (fun _ => True) := by
  rw [k0_part51_eq_skeleton]
  refine Run.bind (step_outload 0) fun _ _ => ?_
  refine Run.bind (step_outstore 0 3 rfl rfl hv) fun _ _ => ?_
  exact mv_fin 1 9 rfl rfl rfl (by decide) rfl (off29_eq c 3) rfl rfl rfl (pay58_apply _) (Run.ret trivial)

/-! ## The sends are waited for -/

theorem part52 (a d) : Run m ρ K c (fin 10 10 9 11) (wh (k0_part52 (F := F)) c a (scale m ρ c) d) (out 2 0 0) (fun _ => True) := by
  rw [k0_part52_eq_skeleton]
  refine mv_fin 2 9 rfl rfl rfl (by decide) rfl (off30_eq c 3) rfl rfl rfl (pay59_apply _) ?_
  refine Run.bind (sent_at 0 0 rfl rfl (by decide) rfl) fun _ _ => ?_
  exact Run.bind (sent_at 0 1 rfl rfl (by decide) rfl) fun _ _ => Run.ret trivial

theorem part53 (a b) : Run m ρ K c (out 2 0 0) (wh (k0_part53 (F := F)) c a b) (out 5 0 0) (fun _ => True) := by
  rw [k0_part53_eq_skeleton]
  refine Run.bind (sent_at 0 2 rfl rfl (by decide) rfl) fun _ _ => ?_
  refine Run.bind (sent_at 0 3 rfl rfl (by decide) rfl) fun _ _ => ?_
  exact Run.bind (sent_at 0 4 rfl rfl (by decide) rfl) fun _ _ => Run.ret trivial

theorem part54 (a) : Run m ρ K c (out 5 0 0) (wh (k0_part54 (F := F)) c a) (out 9 0 0) (fun _ => True) := by
  rw [k0_part54_eq_skeleton]
  refine Run.bind (sent_at 0 5 rfl rfl (by decide) rfl) fun _ _ => ?_
  refine Run.bind (sent_at 0 6 rfl rfl (by decide) rfl) fun _ _ => ?_
  refine Run.bind (sent_at 0 7 rfl rfl (by decide) rfl) fun _ _ => ?_
  exact Run.bind (sent_at 0 8 rfl rfl (by decide) rfl) fun _ _ => Run.ret trivial

theorem part55 (a b e) : Run m ρ K c (out 9 0 0) (wh (k0_part55 (F := F)) c a b e) (out 10 2 0) (fun _ => True) := by
  rw [k0_part55_eq_skeleton]
  refine Run.bind (sent_at 0 9 rfl rfl (by decide) rfl) fun _ _ => ?_
  refine Run.bind (sent_at 1 0 rfl rfl (by decide) rfl) fun _ _ => ?_
  exact Run.bind (sent_at 1 1 rfl rfl (by decide) rfl) fun _ _ => Run.ret trivial

theorem part56 (a b e) : Run m ρ K c (out 10 2 0) (wh (k0_part56 (F := F)) c a b e) (out 10 6 0) (fun _ => True) := by
  rw [k0_part56_eq_skeleton]
  refine Run.bind (sent_at 1 2 rfl rfl (by decide) rfl) fun _ _ => ?_
  refine Run.bind (sent_at 1 3 rfl rfl (by decide) rfl) fun _ _ => ?_
  refine Run.bind (sent_at 1 4 rfl rfl (by decide) rfl) fun _ _ => ?_
  exact Run.bind (sent_at 1 5 rfl rfl (by decide) rfl) fun _ _ => Run.ret trivial

theorem part57 (a) : Run m ρ K c (out 10 6 0) (wh (k0_part57 (F := F)) c a) (out 10 9 0) (fun _ => True) := by
  rw [k0_part57_eq_skeleton]
  refine Run.bind (sent_at 1 6 rfl rfl (by decide) rfl) fun _ _ => ?_
  refine Run.bind (sent_at 1 7 rfl rfl (by decide) rfl) fun _ _ => ?_
  exact Run.bind (sent_at 1 8 rfl rfl (by decide) rfl) fun _ _ => Run.ret trivial

theorem part58 (a) : Run m ρ K c (out 10 9 0) (wh (k0_part58 (F := F)) c a) (out 10 10 3) (fun _ => True) := by
  rw [k0_part58_eq_skeleton]
  refine Run.bind (sent_at 1 9 rfl rfl (by decide) rfl) fun _ _ => ?_
  refine Run.bind (sent_at 2 0 rfl rfl (by decide) rfl) fun _ _ => ?_
  refine Run.bind (sent_at 2 1 rfl rfl (by decide) rfl) fun _ _ => ?_
  exact Run.bind (sent_at 2 2 rfl rfl (by decide) rfl) fun _ _ => Run.ret trivial

theorem part59 (a b) : Run m ρ K c (out 10 10 3) (wh (k0_part59 (F := F)) c a b) (out 10 10 6) (fun _ => True) := by
  rw [k0_part59_eq_skeleton]
  refine Run.bind (sent_at 2 3 rfl rfl (by decide) rfl) fun _ _ => ?_
  refine Run.bind (sent_at 2 4 rfl rfl (by decide) rfl) fun _ _ => ?_
  exact Run.bind (sent_at 2 5 rfl rfl (by decide) rfl) fun _ _ => Run.ret trivial

end Cert.KernelIdeal.Run
-- ==== Proof.Start.lean ====
/-
# The meeting

Every device signals its three neighbours and waits for their signals before it sends anything.
-/
module

public import proofs.«01_k».proof.Proof.PartsA

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

/-- Families joined, or changed, member by member. -/
theorem big_zip {I : Type} [Fintype I] {A B C : I → sProp 𝕄} (h : ∀ i, iprop(A i ∗ B i) ⊢ C i) :
    iprop(bigSep Finset.univ A ∗ bigSep Finset.univ B) ⊢ bigSep Finset.univ C :=
  (Entails.of_eq (bigSep_sep Finset.univ A B).symm).trans (bigSep_mono fun i _ => h i)
theorem big_map {I : Type} [Fintype I] {A B : I → sProp 𝕄} (h : ∀ i, A i ⊢ B i) : bigSep Finset.univ A ⊢ bigSep Finset.univ B :=
  bigSep_mono fun i _ => h i

theorem big_three (Φ : Fin 3 → sProp 𝕄) : bigSep Finset.univ Φ = iprop(Φ 0 ∗ Φ 1 ∗ Φ 2) :=
  bigSep_univ_eq_bigSepL [0, 1, 2] (by decide) (by decide) Φ

/-- What a device owes at the start: its three signals and every transfer. -/
def O₁ : CellTallies nD τ sig Unit := owed c (fun _ => 0) + tallyAt (barCell (nbr 2 c)) () 1
def O₂ : CellTallies nD τ sig Unit := O₁ c + tallyAt (barCell (nbr 1 c)) () 1
def O₀ : CellTallies nD τ sig Unit := O₂ c + tallyAt (barCell (nbr 0 c)) () 1

omit [FloatOps F] in
/-- A device's landing rows, by the axis of the transfers that land there. -/
theorem land_alongs : (bigSep Finset.univ fun t : Fin 3 × Fin 10 => landJ (F := F) c t.1 t.2)
    = bigSep Finset.univ fun a : Fin 3 => barPay (F := F) (nbr a c) a := by
  have h : (Finset.univ : Finset (Fin 3 × Fin 10)) = Finset.univ.biUnion alongs := by decide
  rw [h, bigSep_biUnion_eq _ _ _ fun a _ b _ hab => Finset.disjoint_left.mpr fun t ht ht' =>
    hab ((Finset.mem_filter.mp ht).2.symm.trans (Finset.mem_filter.mp ht').2)]
  refine bigSep_congr fun a _ => ?_
  unfold barPay
  refine bigSep_congr fun t ht => ?_
  have ha : ord t.1 (kOf t.2) = a := (Finset.mem_filter.mp ht).2
  unfold peer
  rw [ha, nbr_nbr]

variable (m ρ K)

/-- What a device holds of a group before it has met its neighbours. -/
def grp0 (g : Fin 3) : sProp 𝕄 :=
  iprop(phase m ρ c g (.fill 0)
    ∗ (bigSep Finset.univ fun i : Fin 10 => iprop(dutyTok ER (sendCell c g i) 0 0 ∗ dutyTok ER (recvCell (peer g i c) g i) 0 0
        ∗ atPos ER (sendCell c g i) 0 ∅ 0))
    ∗ (bigSep Finset.univ fun i : Fin 10 => recvSt m ρ c g i false))

/-- What a device holds when the body begins. -/
def Begin : sProp 𝕄 :=
  iprop(recs m ρ K ∗ levAts L lv ∗ (∃ W, owes (c : Thread nD τ) (O₀ c) W)
    ∗ (stg c cc0_stg0_0 (xC m ρ c) ∗ stg c cc0_stg1_0 (wC m ρ c) ∗ stg c cc0_stg2_0 (sxC m ρ c) ∗ stg c cc0_stg3_0 (swC m ρ c)
      ∗ Out m ρ c 0)
    ∗ (bigSep Finset.univ fun a : Fin 3 => dutyTok ER (barCell (nbr a c)) 0 a)
    ∗ atPos ER (barCell c) 0 ∅ 0 ∗ cred (tallyAt (barCell c) () 3)
    ∗ (bigSep Finset.univ fun t : Fin 3 × Fin 10 => landJ c t.1 t.2)
    ∗ bigSep Finset.univ fun g : Fin 3 => grp0 m ρ c g)

variable {m ρ K}

theorem send_start (g : Fin 3) (i : Fin 10) :
    iprop((dutyTok ER (sendCell c g i) 0 0 ∗ dutyTok ER (recvCell (peer g i c) g i) 0 0 ∗ atPos ER (sendCell c g i) 0 ∅ 0) ∗ landJ (peer g i c) g i)
      ⊢ (sendSt c g i false false : sProp 𝕄) := by
  unfold sendSt toSend
  rw [if_neg Bool.false_ne_true, if_neg Bool.false_ne_true, if_neg Bool.false_ne_true]
  iintro ⟨⟨H1, H2, H3⟩, H4⟩
  isplitl [H1 H2 H4]
  · isplitl [H1]; · iexact H1
    isplitl [H2] <;> iassumption
  isplitl [H3]; · iexact H3
  iempintro

theorem grp_start (g : Fin 3) : iprop(grp0 m ρ c g ∗ bigSep Finset.univ fun i : Fin 10 => landJ (peer g i c) g i) ⊢ grp m ρ c g (at4.get g) := by
  have h : at4.get g = ⟨.fill 0, 0, 0, 0⟩ := by fin_cases g <;> rfl
  have hf : ∀ i : Fin 10, decide (i.val < 0) = false := by decide
  rw [h]
  unfold grp0 grp
  dsimp only
  simp only [hf]
  iintro ⟨⟨Hp, Hs, Hr⟩, Hl⟩
  isplitl [Hp]; · iexact Hp
  isplitl [Hs Hl]
  · iapply (big_zip (send_start c g))
    isplitl [Hs] <;> iassumption
  · iexact Hr

/-- One signal: the landing rows for one axis are handed over. -/
theorem signal_axis (a : Fin 3) {n : Dev nD} (hn : n = nbr a c) {O' O : CellTallies nD τ sig Unit} (hO : O' = O + tallyAt (barCell (nbr a c)) () 1)
    {α : Type} {k : PUnit → Prog (TpuEff nD τ sig (Elt F) Λ₀ .tc) α} {Q : α → sProp 𝕄} :
    iprop(recs m ρ K ∗ (∃ W, owes (c : Thread nD τ) O' W) ∗ dutyTok ER (barCell (nbr a c)) 0 a ∗ barPay (F := F) (nbr a c) a
        ∗ ((∃ W, owes (c : Thread nD τ) O W) -∗ wpc c (k ⟨⟩) Q))
      ⊢ wpc c (semSignalWord n barS 1#32 >>= k) Q := by
  subst hn hO
  simp only [semSignalWord, Prog.lift, Prog.bind_op, Prog.bind_ret, Prog.pure_eq_ret]
  iintro ⟨#Hr, ⟨%W, Ho⟩, Ht, Hb, Hk⟩
  iapply (Rounds.wp_signal 𝒱₀ ER (Rd m ρ) (c : Thread nD τ) none (dst := (nbr a c : Thread nD τ)) (κ := K (nbr a c, none))
      (d := a) (by rw [duties_bar]; exact Finset.mem_univ _) ((amount_bar m ρ (nbr a c) a).trans (by decide)) () O rfl)
    $$ [Ho Ht Hb]
  · isplitr; · iapply (recs_inv m ρ K (nbr a c, none)); iexact Hr
    isplitl [Ho]; · iexact Ho
    isplitl [Ht]; · iexact Ht
    isplitl [Hb]; · rw [payload_bar]; iexact Hb
    iapply (recs_reached m ρ K (nbr a c, none)); iexact Hr
  iintro Ho
  iapply Hk
  iexists W; iexact Ho

/-- The wait for the neighbours' signals brings the rows of theirs that this device sends into. -/
theorem wait_bar {α : Type} {k : PUnit → Prog (TpuEff nD τ sig (Elt F) Λ₀ .tc) α} {Q : α → sProp 𝕄} (n : Fin 3 → ℕ) :
    iprop(recs m ρ K ∗ levAts L lv ∗ (∃ W, owes (c : Thread nD τ) (owed c n) W) ∗ atPos ER (barCell c) 0 ∅ 0 ∗ cred (tallyAt (barCell c) () 3)
        ∗ ((∃ W, owes (c : Thread nD τ) (owed c n) W) -∗ semVal (barCell c) 0
            -∗ (bigSep Finset.univ fun t : Fin 3 × Fin 10 => landJ (peer t.1 t.2 c) t.1 t.2) -∗ wpc c (k ⟨⟩) Q))
      ⊢ wpc c (semWaitWord barS 3#32 >>= k) Q := by
  simp only [semWaitWord, Prog.lift, Prog.bind_op, Prog.bind_ret, Prog.pure_eq_ret]
  iintro ⟨#Hr, #Hl, ⟨%W, Ho⟩, Ha, Hc, Hk⟩
  iapply (Rounds.wp_wait_rest_token 𝒱₀ ER (Rd m ρ) (c : Thread nD τ) none (κ := K (c, none))
      (wpE_semWait_eq 𝒱₀ (c : Thread nD τ) none Set.univ) (Set.mem_univ _) () (O := owed c n) (W := W) (R := 0) (m := 0) (T := ∅)
      (by rw [expect_bar]; decide)) $$ [Hc Ho Ha]
  · isplitr; · iapply (recs_inv m ρ K (c, none)); iexact Hr
    isplitl [Hc]; · iexact Hc
    isplitl [Ho]; · iexact Ho
    isplitr; · iapply (mayWait_bar c n); iexact Hl
    iexact Ha
  iintro ⟨Ho, Ha, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Ha] with Hz
  · isplitr; · iapply (recs_inv m ρ K (c, none)); iexact Hr
    iexact Ha
  iapply Hk $$ [Ho] Hz Hp
  iexists _; iexact Ho

set_option maxRecDepth 65536

theorem wpc_pure {α : Type} {a : α} {Q : α → sProp 𝕄} : Q a ⊢ wpc c (pure a) Q := by
  show _ ⊢ wp _ _ _ (Prog.ret a) _
  rw [wp_ret]
  iintro H
  imodintro
  iexact H

theorem part1 {Q : _ → sProp 𝕄} : (∀ r, ⌜r.1 = c⌝ -∗ Q r : sProp 𝕄) ⊢ wpc c (wh (k0_part1 (F := F))) Q := by
  rw [k0_part1_eq_skeleton]
  unfold k0_part1_skel
  simp only [Prog.lift, Prog.bind_op, Prog.bind_ret, Prog.pure_eq_ret, wp_deviceId, wp_ret]
  iintro H
  imodintro
  iapply H
  ipureintro; rfl

theorem part2 (a b d e f g h) {Q : _ → sProp 𝕄} : (∀ r, Q r : sProp 𝕄) ⊢ wpc c (wh (k0_part2 (F := F)) a b d e f g h) Q := by
  rw [k0_part2_eq_skeleton]
  unfold k0_part2_skel
  simp only [Prog.pure_eq_ret, wp_ret]
  iintro H
  imodintro
  iapply H

theorem part3 (a b d e f g h i j) {Q : _ → sProp 𝕄} :
    iprop(Begin m ρ K c ∗ (∀ r, St m ρ K c at4 -∗ semVal (barCell c) 0 -∗ Q r)) ⊢ wpc c (wh (k0_part3 (F := F)) c a b d e f g h i j) Q := by
  rw [k0_part3_eq_skeleton]
  unfold Begin
  rw [land_alongs, big_three (fun a => dutyTok ER (barCell (nbr a c)) 0 a), big_three (fun a => barPay (nbr a c) a)]
  iintro ⟨⟨#Hr, #Hl, Ho, Hbase, ⟨Ht0, Ht1, Ht2⟩, Ha, Hc, ⟨Hb0, Hb1, Hb2⟩, Hg⟩, Hk⟩
  iapply (signal_axis c 0 (dev1_eq c) (O := O₂ c) rfl)
  isplitr; · iexact Hr
  isplitl [Ho]; · iexact Ho
  isplitl [Ht0]; · iexact Ht0
  isplitl [Hb0]; · iexact Hb0
  iintro Ho
  iapply (signal_axis c 1 (dev2_eq c) (O := O₁ c) rfl)
  isplitr; · iexact Hr
  isplitl [Ho]; · iexact Ho
  isplitl [Ht1]; · iexact Ht1
  isplitl [Hb1]; · iexact Hb1
  iintro Ho
  iapply (signal_axis c 2 (dev3_eq c) (O := owed c (fun _ => 0)) rfl)
  isplitr; · iexact Hr
  isplitl [Ho]; · iexact Ho
  isplitl [Ht2]; · iexact Ht2
  isplitl [Hb2]; · iexact Hb2
  iintro Ho
  iapply (wait_bar c (fun _ => 0))
  isplitr; · iexact Hr
  isplitr; · iexact Hl
  isplitl [Ho]; · iexact Ho
  isplitl [Ha]; · iexact Ha
  isplitl [Hc]; · iexact Hc
  iintro Ho Hz Hp
  iapply (wpc_pure c)
  iapply Hk $$ [Ho Hbase Hg Hp] Hz
  unfold St base
  isplitl [Ho Hbase]
  · isplitr; · iexact Hr
    isplitr; · iexact Hl
    isplitl [Ho]
    · rw [show at4.ns = fun _ => 0 from by funext g; fin_cases g <;> rfl]; iexact Ho
    iexact Hbase
  · ihave Hp := (Entails.of_eq (bigSep_univ_prod _)) $$ Hp
    iapply (big_zip (grp_start c))
    isplitl [Hg] <;> iassumption

/-! ## Put before what follows -/

theorem part1_bind {β : Type} {k : _ → Prog (TpuEff nD τ sig (Elt F) Λ₀ .tc) β} {Q : β → sProp 𝕄} {P : sProp 𝕄} (h : ∀ r, r.1 = c → P ⊢ wpc c (k r) Q) :
    P ⊢ wpc c (wh (k0_part1 (F := F)) >>= k) Q := by
  show _ ⊢ wp _ _ _ _ _
  rw [wp_bind]
  refine BIBase.Entails.trans ?_ (part1 c)
  iintro H %r %hr
  iapply (h r hr)
  iexact H

theorem part2_bind (a b d e f g i) {β : Type} {k : _ → Prog (TpuEff nD τ sig (Elt F) Λ₀ .tc) β} {Q : β → sProp 𝕄} {P : sProp 𝕄} (h : ∀ r, P ⊢ wpc c (k r) Q) :
    P ⊢ wpc c (wh (k0_part2 (F := F)) a b d e f g i >>= k) Q := by
  show _ ⊢ wp _ _ _ _ _
  rw [wp_bind]
  refine BIBase.Entails.trans ?_ (part2 c a b d e f g i)
  iintro H %r
  iapply (h r)
  iexact H

theorem part3_bind (a b d e f g i j l) {β : Type} {k : _ → Prog (TpuEff nD τ sig (Elt F) Λ₀ .tc) β} {Q : β → sProp 𝕄} {P : sProp 𝕄}
    (h : ∀ r, iprop(St m ρ K c at4 ∗ semVal (barCell c) 0 ∗ P) ⊢ wpc c (k r) Q) :
    iprop(Begin m ρ K c ∗ P) ⊢ wpc c (wh (k0_part3 (F := F)) c a b d e f g i j l >>= k) Q := by
  show _ ⊢ wp _ _ _ _ _
  rw [wp_bind]
  refine BIBase.Entails.trans ?_ (part3 (m := m) (ρ := ρ) (K := K) c a b d e f g i j l)
  iintro ⟨Hb, H⟩
  isplitl [Hb]; · iexact Hb
  iintro %r Hs Hz
  iapply (h r)
  isplitl [Hs]; · iexact Hs
  isplitl [Hz] <;> iassumption

theorem Run.use {s s' : S} {α : Type} {p : Prog (TpuEff nD τ sig (Elt F) Λ₀ .tc) α} {R : α → Prop} {P : sProp 𝕄} {Q : α → sProp 𝕄}
    (h : Run m ρ K c s p s' R) (hQ : ∀ a, R a → iprop(St m ρ K c s' ∗ P) ⊢ Q a) : iprop(St m ρ K c s ∗ P) ⊢ wpc c p Q := by
  iintro ⟨Hs, Hp⟩
  iapply (h Q)
  isplitl [Hs]; · iexact Hs
  iintro %a %ha Hs
  iapply (hQ a ha)
  isplitl [Hs] <;> iassumption

end Cert.KernelIdeal.Run
-- ==== Proof.Body.lean ====
/-
# The body

The parts put together: from what a device holds at the start to what it holds at the end.
-/
module

public import proofs.«01_k».proof.Proof.PartsC
public import proofs.«01_k».proof.Proof.Start

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

set_option maxRecDepth 65536
set_option maxHeartbeats 1600000

/-- Everything but the last four waits. -/
theorem part60 {Q : _ → sProp 𝕄} {P : sProp 𝕄} (hQ : ∀ a, a.1 = c → iprop(St m ρ K c (out 10 10 6) ∗ semVal (barCell c) 0 ∗ P) ⊢ Q a) :
    iprop(Begin m ρ K c ∗ P) ⊢ wpc c (wh (k0_part60 (F := F))) Q := by
  rw [k0_part60_eq_skeleton]
  refine part1_bind c ?_
  rintro ⟨d, a1, a2, a3, a4, a5, a6, a7⟩ h
  obtain rfl : c = d := h.symm
  refine part2_bind _ _ _ _ _ _ _ _ fun r => ?_
  refine part3_bind _ _ _ _ _ _ _ _ _ _ fun r => ?_
  refine Run.use c (R := fun a => a.1 = c) ?_ hQ
  refine Run.bind (part4 c _ _ _ _) ?_
  rintro _ rfl
  refine Run.bind (part5 c _) ?_
  rintro ⟨v, b1, b2⟩ h
  refine Run.bind (part6 c _ _ _ _ _ h) fun _ _ => ?_
  refine Run.bind (part7 c _ _ _) fun _ _ => ?_
  refine Run.bind (part8 c _ _ _ _ _) ?_
  rintro ⟨b1, v, w⟩ h
  refine Run.bind (part9 c _ _ _ _ h) ?_
  rintro v h
  refine Run.bind (part10 c _ _ h) fun _ _ => ?_
  refine Run.bind (part11 c _ _) fun _ _ => ?_
  refine Run.bind (part12 c _ _ _) ?_
  rintro ⟨b1, v⟩ h
  refine Run.bind (part13 c _ _ _ h) ?_
  rintro ⟨v, w⟩ h
  refine Run.bind (part14 c _ _ _ h) fun _ _ => ?_
  refine Run.bind (part15 c _ _ _ _ _) fun _ _ => ?_
  refine Run.bind (part16 c _ _ _ _) fun _ _ => ?_
  refine Run.bind (part17 c _ _) ?_
  rintro v h
  refine Run.bind (part18 c _ _ h) fun _ _ => ?_
  refine Run.bind (part19 c _ _) ?_
  rintro ⟨v, b1⟩ h
  refine Run.bind (part20 c _ _ _ h) fun _ _ => ?_
  refine Run.bind (part21 c _ _ _ _) fun _ _ => ?_
  refine Run.bind (part22 c _ _) ?_
  rintro ⟨v, b1, b2⟩ h
  refine Run.bind (part23 c _ _ _ _ h) fun _ _ => ?_
  refine Run.bind (part24 c _ _ _) fun _ _ => ?_
  refine Run.bind (part25 c _ _ _ _ _ _ _ _ _) ?_
  rintro ⟨v, b1⟩ h
  obtain rfl := h
  refine Run.bind (part26 c _ _ _ _ _) fun _ _ => ?_
  refine Run.bind (part27 c _ _ _ _ _) ?_
  rintro ⟨b1, v⟩ h
  obtain rfl := h
  refine Run.bind (part28 c _ _ _ _ _ _) fun _ _ => ?_
  refine Run.bind (part29 c _ _ _ _) ?_
  rintro v h
  refine Run.bind (part30 c _ _ _ _ _ _ h) fun _ _ => ?_
  refine Run.bind (part31 c _ _ _ _ _) fun _ _ => ?_
  refine Run.bind (part32 c _ _ _ _ _) fun _ _ => ?_
  refine Run.bind (part33 c _ _ _ _) fun _ _ => ?_
  refine Run.bind (part34 c _ _ _ _) fun _ _ => ?_
  refine Run.bind (part35 c _ _ _ _ _ _) fun _ _ => ?_
  refine Run.bind (part36 c _ _ _ _ _) ?_
  rintro ⟨b1, v⟩ h
  refine Run.bind (part37 c _ _ _ _ _ _ _ h) fun _ _ => ?_
  refine Run.bind (part38 c _ _ _) fun _ _ => ?_
  refine Run.bind (part39 c _ _ _) fun _ _ => ?_
  refine Run.bind (part40 c _ _ _ _) fun _ _ => ?_
  refine Run.bind (part41 c _ _) fun _ _ => ?_
  refine Run.bind (part42 c _ _ _ _ _) fun _ _ => ?_
  refine Run.bind (part43 c _ _) fun _ _ => ?_
  refine Run.bind (part44 c _ _ _ _ _ _) ?_
  rintro ⟨v, w⟩ h
  replace h := h rfl
  refine Run.bind (part45 c _ _ _ _ _ _ _ h) fun _ _ => ?_
  refine Run.bind (part46 c _ _ _ _) ?_
  rintro ⟨v, w⟩ h
  refine Run.bind (part47 c _ _ _ _ _ _ _ h) fun _ _ => ?_
  refine Run.bind (part48 c _ _ _ _) ?_
  rintro ⟨v, w⟩ h
  refine Run.bind (part49 c _ _ _ _ _ _ _ h) fun _ _ => ?_
  refine Run.bind (part50 c _ _ _ _) ?_
  rintro ⟨v, w⟩ h
  refine Run.bind (part51 c _ _ _ _ _ _ _ h) fun _ _ => ?_
  refine Run.bind (part52 c _ _) fun _ _ => ?_
  refine Run.bind (part53 c _ _) fun _ _ => ?_
  refine Run.bind (part54 c _) fun _ _ => ?_
  refine Run.bind (part55 c _ _ _) fun _ _ => ?_
  refine Run.bind (part56 c _ _ _) fun _ _ => ?_
  refine Run.bind (part57 c _) fun _ _ => ?_
  refine Run.bind (part58 c _) fun _ _ => ?_
  refine Run.bind (part59 c _ _) fun _ _ => ?_
  exact Run.ret rfl

theorem body {Q : _ → sProp 𝕄} {P : sProp 𝕄} (hQ : iprop(St m ρ K c (out 10 10 10) ∗ semVal (barCell c) 0 ∗ P) ⊢ Q ⟨⟩) :
    iprop(Begin m ρ K c ∗ P) ⊢ wpc c (wh (cc0_body (F := F))) Q := by
  rw [cc0_body_eq_skeleton]
  show _ ⊢ wp _ _ _ (_ >>= _) _
  rw [wp_bind]
  refine part60 c ?_
  rintro ⟨d, v⟩ h
  obtain rfl : c = d := h.symm
  refine Run.use c (R := fun _ => True) ?_ fun _ _ => hQ
  refine Run.bind (sent_at 2 6 rfl rfl (by decide) rfl) fun _ _ => ?_
  refine Run.bind (sent_at 2 7 rfl rfl (by decide) rfl) fun _ _ => ?_
  refine Run.bind (sent_at 2 8 rfl rfl (by decide) rfl) fun _ _ => ?_
  exact Run.bind (sent_at 2 9 rfl rfl (by decide) rfl) fun _ _ => Run.ret trivial

end Cert.KernelIdeal.Run
-- ==== Proof.Ends.lean ====
/-
# The buffers at the start and at the end

A device cuts its buffers into the rows each transfer reads and lands in, and joins them again at the end.
-/
module

public import proofs.«01_k».proof.Proof.Body

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ} (c : Dev nD)

/-! ## Families written out -/

omit [FloatOps F] in
theorem big_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem big_sep {I : Type} [Fintype I] {A B : I → sProp 𝕄} :
    bigSep Finset.univ (fun i => iprop(A i ∗ B i)) ⊢ (iprop(bigSep Finset.univ A ∗ bigSep Finset.univ B) : sProp 𝕄) :=
  Entails.of_eq (bigSep_sep Finset.univ A B)

omit [FloatOps F] in
theorem big_two (Φ : Bool → sProp 𝕄) : bigSep Finset.univ Φ = iprop(Φ false ∗ Φ true) :=
  bigSep_univ_eq_bigSepL [false, true] (by decide) (by decide) Φ

/-! ## Rows cut and joined -/

section
variable {R C : ℕ} {e : EltTy} {M : Memref sig .tc .vmem ⟨2, ![R, C]⟩ e}

omit [FloatOps F] in
/-- All rows of a buffer are the buffer. -/
theorem junk_full : (Junk c M 0 R : sProp 𝕄)
    = iprop(∃ f : Buf (Elt F) (M.view.loc (c : Thread nD τ)), M.view.loc (c : Thread nD τ) ↦[M.view.set]{fullShare} f) := by
  have h : band R C 0 R = Finset.univ := by
    ext x; rw [mem_band]; exact iff_of_true ⟨Nat.zero_le _, (x 0).isLt⟩ (Finset.mem_univ x)
  unfold Junk
  rw [h, View.setOn_univ]

omit [FloatOps F] in
/-- Two halves, in either order. -/
theorem junk_halves {a b s n : ℕ} (h : (a = s ∧ b = s + n) ∨ (b = s ∧ a = s + n)) :
    iprop(Junk c M a (a + n) ∗ Junk c M b (b + n)) ⊢ (Junk c M s (s + n + n) : sProp 𝕄) := by
  rcases h with ⟨rfl, rfl⟩ | ⟨rfl, rfl⟩
  · exact junk_join (Nat.le_add_right _ _) (Nat.le_add_right _ _)
  · iintro ⟨H1, H2⟩
    iapply (junk_join (k := b + n) (Nat.le_add_right _ _) (Nat.le_add_right _ _))
    isplitl [H2] <;> iassumption

omit [FloatOps F] in
theorem junk_cut {a b s n : ℕ} (h : (a = s ∧ b = s + n) ∨ (b = s ∧ a = s + n)) :
    Junk c M s (s + n + n) ⊢ (iprop(Junk c M a (a + n) ∗ Junk c M b (b + n)) : sProp 𝕄) := by
  rcases h with ⟨rfl, rfl⟩ | ⟨rfl, rfl⟩
  · exact junk_split (Nat.le_add_right _ _) (Nat.le_add_right _ _)
  · iintro H
    ihave H := (junk_split (k := b + n) (Nat.le_add_right _ _) (Nat.le_add_right _ _)) $$ H
    icases H with ⟨H1, H2⟩
    isplitl [H2] <;> iassumption

omit [FloatOps F] in
/-- Two, or four, pieces of `n` rows in a row. -/
theorem junk_join2 (a n : ℕ) : iprop(Junk c M (a + n * 0) (a + n * 0 + n) ∗ Junk c M (a + n * 1) (a + n * 1 + n)) ⊢ (Junk c M a (a + n * 2) : sProp 𝕄) := by
  rw [show a + n * 0 = a from rfl, show a + n * 1 + n = a + n * 2 by omega, show a + n * 1 = a + n by omega]
  exact junk_join (Nat.le_add_right _ _) (by omega)

omit [FloatOps F] in
theorem junk_join4 (a n : ℕ) :
    iprop(Junk c M (a + n * 0) (a + n * 0 + n) ∗ Junk c M (a + n * 1) (a + n * 1 + n) ∗ Junk c M (a + n * 2) (a + n * 2 + n)
      ∗ Junk c M (a + n * 3) (a + n * 3 + n)) ⊢ (Junk c M a (a + n * 4) : sProp 𝕄) := by
  iintro ⟨H0, H1, H2, H3⟩
  ihave H := (junk_join2 c (M := M) a n) $$ [H0 H1]
  · isplitl [H0] <;> iassumption
  iapply (junk_join (k := a + n * 2) (by omega) (by omega))
  isplitl [H]; · iexact H
  rw [show a + n * 2 + n = a + n * 3 by omega, show a + n * 3 + n = a + n * 4 by omega]
  iapply (junk_join (k := a + n * 3) (by omega) (by omega))
  isplitl [H2] <;> iassumption

end

/-! ## The landing buffers -/

omit [FloatOps F] in
theorem land_split (g : Fin 3) : Junk c (rcvM g) 0 3584 ⊢ (bigSep Finset.univ fun i : Fin 10 => landJ c g i : sProp 𝕄) := by
  rw [big_ten]
  exact (junk_split (k := 512) (by decide) (by decide)).trans <| sep_mono_right <|
    (junk_split (k := 1024) (by decide) (by decide)).trans <| sep_mono_right <|
    (junk_split (k := 1536) (by decide) (by decide)).trans <| sep_mono_right <|
    (junk_split (k := 2048) (by decide) (by decide)).trans <| sep_mono_right <|
    (junk_split (k := 2560) (by decide) (by decide)).trans <| sep_mono_right <|
    (junk_split (k := 3072) (by decide) (by decide)).trans <| sep_mono_right <|
    (junk_split (k := 3200) (by decide) (by decide)).trans <| sep_mono_right <|
    (junk_split (k := 3328) (by decide) (by decide)).trans <| sep_mono_right <|
    junk_split (k := 3456) (by decide) (by decide)

omit [FloatOps F] in
theorem land_join (g : Fin 3) : (bigSep Finset.univ fun i : Fin 10 => landJ c g i : sProp 𝕄) ⊢ Junk c (rcvM g) 0 3584 := by
  rw [big_ten]
  refine BIBase.Entails.trans ?_ (junk_join (k := 512) (by decide) (by decide)); refine sep_mono_right ?_
  refine BIBase.Entails.trans ?_ (junk_join (k := 1024) (by decide) (by decide)); refine sep_mono_right ?_
  refine BIBase.Entails.trans ?_ (junk_join (k := 1536) (by decide) (by decide)); refine sep_mono_right ?_
  refine BIBase.Entails.trans ?_ (junk_join (k := 2048) (by decide) (by decide)); refine sep_mono_right ?_
  refine BIBase.Entails.trans ?_ (junk_join (k := 2560) (by decide) (by decide)); refine sep_mono_right ?_
  refine BIBase.Entails.trans ?_ (junk_join (k := 3072) (by decide) (by decide)); refine sep_mono_right ?_
  refine BIBase.Entails.trans ?_ (junk_join (k := 3200) (by decide) (by decide)); refine sep_mono_right ?_
  refine BIBase.Entails.trans ?_ (junk_join (k := 3328) (by decide) (by decide)); refine sep_mono_right ?_
  exact junk_join (k := 3456) (by decide) (by decide)

/-! ## The buffers of partial sums -/

theorem first_halves : ∀ (g : Fin 3) (c : Dev nD), (snd g 0 c = 0 ∧ own g 0 c = 0 + 2048) ∨ (own g 0 c = 0 ∧ snd g 0 c = 0 + 2048) := by
  decide +kernel

theorem fill_start (g : Fin 3) : Junk c (bufM g) 0 4096 ⊢ (phase m ρ c g (.fill 0) : sProp 𝕄) := by
  unfold phase Adv
  dsimp only [Seg]
  iintro H
  ihave H := (junk_cut c (s := 0) (n := 2048) (first_halves g c)) $$ H
  icases H with ⟨H1, H2⟩
  isplitl [H1]
  · ihave H := (junk_split (k := snd g 0 c) le_rfl (Nat.le_add_right _ _)) $$ H1
    icases H with ⟨H0, H1⟩
    isplitl [H0]
    · iapply junk_nil_rows; iexact H0
    · iexact H1
  · iexact H2

/-- The rows sent, all of them back, and the rows kept are the whole buffer. -/
theorem buf_join (g : Fin 3) :
    iprop((bigSep Finset.univ fun i : Fin 10 => srcJ c g i) ∗ Junk c (bufM g) (own g 2 c) (own g 2 c + 512)) ⊢ (Junk c (bufM g) 0 4096 : sProp 𝕄) := by
  rw [big_ten]
  have h1 := halves g 1 c (by decide)
  have h0 := halves g 0 c (by decide)
  iintro ⟨⟨H0, H1, H2, H3, H4, H5, H6, H7, H8, H9⟩, Ho⟩
  ihave Hs0 := (junk_join4 c (M := bufM g) (snd g 0 c) 512) $$ [H0 H1 H2 H3]
  · isplitl [H0]; · iexact H0
    isplitl [H1]; · iexact H1
    isplitl [H2]; · iexact H2
    iexact H3
  ihave Hs1 := (junk_join2 c (M := bufM g) (snd g 1 c) 512) $$ [H4 H5]
  · isplitl [H4]; · iexact H4
    iexact H5
  ihave Hs2 := (junk_join4 c (M := bufM g) (snd g 2 c) 128) $$ [H6 H7 H8 H9]
  · isplitl [H6]; · iexact H6
    isplitl [H7]; · iexact H7
    isplitl [H8]; · iexact H8
    iexact H9
  iapply (junk_halves c (M := bufM g) (s := 0) (n := 2048) (first_halves g c))
  isplitl [Hs0]; · iexact Hs0
  iapply (junk_halves c (M := bufM g) (s := own g 0 c) (n := 1024) h0)
  isplitl [Hs1]; · iexact Hs1
  iapply (junk_halves c (M := bufM g) (s := own g 1 c) (n := 512) h1)
  isplitl [Hs2]; · iexact Hs2
  iexact Ho

/-! ## The end -/

theorem grp_end (g : Fin 3) : grp m ρ c g ⟨.send 2 4, 10, 10, 10⟩
    ⊢ (iprop((bigSep Finset.univ fun i : Fin 10 => semVal (sendCell c g i) 0) ∗ (bigSep Finset.univ fun i : Fin 10 => semVal (recvCell c g i) 0)
        ∗ Junk c (bufM g) 0 4096 ∗ Junk c (rcvM g) 0 3584) : sProp 𝕄) := by
  have hf : ∀ i : Fin 10, decide (i.val < 10) = true := by decide
  unfold grp
  dsimp only
  simp only [hf]
  iintro ⟨Hp, Hs, Hr⟩
  unfold phase
  dsimp only [Seg]
  icases Hp with ⟨-, Hp⟩
  ihave Hp := (rows_junk (c := c)) $$ Hp
  ihave Hs := ((big_map (A := fun i : Fin 10 => sendSt c g i true true) (B := fun i => iprop(semVal (sendCell c g i) 0 ∗ srcJ c g i)) fun i => by
    unfold sendSt; rw [if_pos rfl, if_pos rfl]; exact sep_elim_right ..).trans big_sep) $$ Hs
  ihave Hr := ((big_map (A := fun i : Fin 10 => recvSt m ρ c g i true) (B := fun i => iprop(semVal (recvCell c g i) 0 ∗ landJ c g i)) fun i => by
    unfold recvSt; rw [if_pos rfl]; exact sep_mono_right rows_junk).trans big_sep) $$ Hr
  icases Hs with ⟨Hs, Hsrc⟩
  icases Hr with ⟨Hr, Hl⟩
  isplitl [Hs]; · iexact Hs
  isplitl [Hr]; · iexact Hr
  isplitl [Hsrc Hp]
  · iapply (buf_join c g)
    isplitl [Hsrc] <;> iassumption
  · iapply (land_join c g); iexact Hl

theorem out_end : Out m ρ c 12 ⊢ (stg c cc0_stg4_0 (outC m ρ c) : sProp 𝕄) := by
  unfold Out
  iintro ⟨%f, %hf, H⟩
  iexists f
  isplitr
  · ipureintro
    funext x
    refine hf x ?_
    have h : (x 0).val < 512 := (x 0).isLt
    have h3 := (grpOf (x 1).val).isLt
    omega
  · iexact H

theorem owed_end : owed c (out 10 10 10).ns = 0 := by
  unfold owed
  refine Finset.sum_eq_zero fun g _ => ?_
  have h : (out 10 10 10).ns g = 10 := by revert g; decide
  unfold oweG
  rw [h]
  exact Finset.sum_eq_zero fun i _ => if_neg (by have := i.isLt; omega)

omit [FloatOps F] in
/-- The transfers' semaphores, by side, group and transfer. -/
theorem xsems_eq : (bigSep Finset.univ fun t : XI => semVal (xCell c t) 0 : sProp 𝕄)
    = iprop((bigSep Finset.univ fun g : Fin 3 => bigSep Finset.univ fun i : Fin 10 => semVal (sendCell c g i) 0)
      ∗ bigSep Finset.univ fun g : Fin 3 => bigSep Finset.univ fun i : Fin 10 => semVal (recvCell c g i) 0) := by
  rw [bigSep_univ_prod, big_two, bigSep_univ_prod, bigSep_univ_prod]

/-- The buffers a device uses beside the ones its inputs and its result are staged in. -/
def bufs : sProp 𝕄 :=
  iprop((bigSep Finset.univ fun g : Fin 3 => Junk c (bufM g) 0 4096) ∗ bigSep Finset.univ fun g : Fin 3 => Junk c (rcvM g) 0 3584)

theorem finish : St m ρ K c (out 10 10 10) ⊢ (iprop((∃ W, owes (c : Thread nD τ) 0 W)
    ∗ (stg c cc0_stg0_0 (xC m ρ c) ∗ stg c cc0_stg1_0 (wC m ρ c) ∗ stg c cc0_stg2_0 (sxC m ρ c) ∗ stg c cc0_stg3_0 (swC m ρ c)
      ∗ stg c cc0_stg4_0 (outC m ρ c))
    ∗ (bigSep Finset.univ fun t : XI => semVal (xCell c t) 0) ∗ bufs c) : sProp 𝕄) := by
  have hg : ∀ g : Fin 3, (out 10 10 10).get g = ⟨.send 2 4, 10, 10, 10⟩ := by intro g; fin_cases g <;> rfl
  unfold St base
  rw [owed_end]
  simp only [hg]
  iintro ⟨⟨-, -, Ho, Hx, Hw, Hsx, Hsw, Hout⟩, Hg⟩
  ihave Hg := ((big_map (grp_end c (m := m) (ρ := ρ))).trans (big_sep.trans (sep_mono_right (big_sep.trans (sep_mono_right big_sep))))) $$ Hg
  icases Hg with ⟨Hs, Hr, Hb, Hl⟩
  isplitl [Ho]; · iexact Ho
  isplitl [Hx Hw Hsx Hsw Hout]
  · isplitl [Hx]; · iexact Hx
    isplitl [Hw]; · iexact Hw
    isplitl [Hsx]; · iexact Hsx
    isplitl [Hsw]; · iexact Hsw
    iapply (out_end c (m := m) (ρ := ρ)); iexact Hout
  isplitl [Hs Hr]
  · iapply (Entails.of_eq (xsems_eq c).symm)
    isplitl [Hs] <;> iassumption
  · unfold bufs
    isplitl [Hb] <;> iassumption

/-- They are what the launch hands a device and takes back. -/
theorem bufs_eq : (Pipeline.scopedRest (Ix := Unit) (Name := ℕ) (U := UU) (Lvl := ℕ) (Val := Elt F) spec0 c : sProp 𝕄) ⊣⊢ bufs c := by
  rw [scopedRest0_eq]
  unfold bufs
  rw [big_three, big_three]
  have h (g : Fin 3) := junk_full (F := F) c (M := bufM g)
  have h' (g : Fin 3) := junk_full (F := F) c (M := rcvM g)
  rw [h 0, h 1, h 2, h' 0, h' 1, h' 2]
  simp only [Memref.view_whole, View.set_whole]
  constructor
  · iintro ⟨H0, H1, H2, H3, H4, H5⟩
    isplitl [H0 H1 H2]
    · isplitl [H0]; · iexact H0
      isplitl [H1] <;> iassumption
    · isplitl [H3]; · iexact H3
      isplitl [H4] <;> iassumption
  · iintro ⟨⟨H0, H1, H2⟩, H3, H4, H5⟩
    isplitl [H0]; · iexact H0
    isplitl [H1]; · iexact H1
    isplitl [H2]; · iexact H2
    isplitl [H3]; · iexact H3
    isplitl [H4] <;> iassumption

end Cert.KernelIdeal.Run
-- ==== Proof.Deal.lean ====
/-
# The set-up of the launch

The cells' invariants are made, the tokens handed to the devices that pay with them, and each device is credited with what the others owe it.
-/
module

public import proofs.«01_k».proof.Proof.Ends

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families by cell -/

omit [FloatOps F] in
theorem big_option (Φ : CI → sProp 𝕄) : bigSep Finset.univ Φ = iprop(Φ none ∗ bigSep Finset.univ fun t : XI => Φ (some t)) := by
  have h : (Finset.univ : Finset CI).erase none = (Finset.univ : Finset XI).map Function.Embedding.some := by
    ext x; cases x <;> simp
  rw [bigSep_univ_at Φ none, h, bigSep_map]; rfl

omit [FloatOps F] in
theorem big_unsep {I : Type} [Fintype I] {A B : I → sProp 𝕄} :
    iprop(bigSep Finset.univ A ∗ bigSep Finset.univ B) ⊢ (bigSep Finset.univ (fun i => iprop(A i ∗ B i)) : sProp 𝕄) :=
  Entails.of_eq (bigSep_sep Finset.univ A B).symm

omit [FloatOps F] in
/-- The transfers' cells, by side. -/
theorem big_sides (Φ : XI → sProp 𝕄) :
    bigSep Finset.univ Φ = iprop((bigSep Finset.univ fun p : Fin 3 × Fin 10 => Φ (false, p)) ∗ bigSep Finset.univ fun p : Fin 3 × Fin 10 => Φ (true, p)) := by
  rw [bigSep_univ_prod, big_two]

omit [FloatOps F] in
/-- Each device hands member `j` of its family to its partner by `j`. -/
theorem deal {J : Type} [Fintype J] (Φ : Dev nD → J → sProp 𝕄) (π : J → Dev nD → Dev nD) (hπ : ∀ j d, π j (π j d) = d) :
    (bigSep Finset.univ fun c : Dev nD => bigSep Finset.univ fun j : J => Φ c j)
      = bigSep Finset.univ fun c : Dev nD => bigSep Finset.univ fun j : J => Φ (π j c) j := by
  rw [bigSep_univ_comm (fun c j => Φ c j), bigSep_univ_comm (fun c j => Φ (π j c) j)]
  exact bigSep_congr fun j _ => bigSep_univ_equiv (Function.Involutive.toPerm (π j) (hπ j)) (fun c => Φ c j)

/-! ## The cells and the tokens -/

theorem kcell_inj : Function.Injective kcell := by
  rintro ⟨c, k⟩ ⟨c', k'⟩ h
  have h1 : (kcell (c, k)).1 = (kcell (c', k')).1 := congrArg Prod.fst h
  have h2 : (kcell (c, k)).2 = (kcell (c', k')).2 := congrArg Prod.snd h
  have hc : c = c' := by cases k <;> cases k' <;> exact congrArg Prod.fst h1
  subst hc
  cases k with
  | none => cases k' with
    | none => rfl
    | some t' => exact absurd h2 (fun h => by cases h)
  | some t => cases k' with
    | none => exact absurd h2 (fun h => by cases h)
    | some t' => rw [semIx_inj t t' (SemLoc.dma.inj h2)]

def cellsF : Finset (GSem nD τ sig) := Finset.univ.map ⟨kcell, kcell_inj⟩

abbrev TI : Type := Fin 3 ⊕ XI
/-- A device's own cells' tokens: three of the shared cell's, by axis, and one of each transfer cell's. -/
def tokOf (x : Dev nD × TI) : GSem nD τ sig × ℕ × Fin 3 := match x.2 with
  | .inl a => (barCell x.1, 0, a)
  | .inr t => (xCell x.1 t, 0, 0)

theorem tokOf_inj : Function.Injective tokOf := by
  rintro ⟨c, k⟩ ⟨c', k'⟩ h
  have h1 : (tokOf (c, k)).1 = (tokOf (c', k')).1 := congrArg Prod.fst h
  have h3 : (tokOf (c, k)).2.2 = (tokOf (c', k')).2.2 := congrArg (fun x => x.2.2) h
  cases k with
  | inl a => cases k' with
    | inl a' =>
      have hc : c = c' := congrArg (fun g : GSem nD τ sig => g.1.1) h1
      have ha : a = a' := h3
      rw [hc, ha]
    | inr t' => exact absurd (congrArg Prod.snd h1) (fun h => by cases h)
  | inr t => cases k' with
    | inl a' => exact absurd (congrArg Prod.snd h1) (fun h => by cases h)
    | inr t' =>
      have hc : c = c' := congrArg (fun g : GSem nD τ sig => g.1.1) h1
      have ht : t = t' := semIx_inj t t' (SemLoc.dma.inj (congrArg Prod.snd h1))
      rw [hc, ht]

def toksF : Finset (GSem nD τ sig × ℕ × Fin 3) := Finset.univ.map ⟨tokOf, tokOf_inj⟩

/-- The launch's ghost state. -/
def u₀ : UU := (initOf (Pipeline.cells cfgs cellOf_inj) (Pipeline.launchToks cfgs cellOf_inj), initOf cellsF toksF)

section
variable (c : Dev nD)

/-- The tokens of device `c`'s own cells. -/
def toks : sProp 𝕄 :=
  iprop((bigSep Finset.univ fun a : Fin 3 => dutyTok ER (barCell c) 0 a) ∗ bigSep Finset.univ fun t : XI => dutyTok ER (xCell c t) 0 0)

/-- The tokens device `c` pays with. -/
def payToks : sProp 𝕄 :=
  iprop((bigSep Finset.univ fun a : Fin 3 => dutyTok ER (barCell (nbr a c)) 0 a)
    ∗ (bigSep Finset.univ fun p : Fin 3 × Fin 10 => dutyTok ER (sendCell c p.1 p.2) 0 0)
    ∗ bigSep Finset.univ fun p : Fin 3 × Fin 10 => dutyTok ER (recvCell (peer p.1 p.2 c) p.1 p.2) 0 0)

abbrev positions : sProp 𝕄 := bigSep Finset.univ fun k : CI => atPos ER (kcell (c, k)) 0 ∅ 0

/-- What the launch deals device `c`. -/
def G : sProp 𝕄 :=
  iprop((bigSep Finset.univ fun k : CI => roundState ER (Rd m ρ) (kcell (c, k)) 0) ∗ positions c
    ∗ (bigSep Finset.univ fun k : CI => reached ER (kcell (c, k)) 0) ∗ toks c)

/-- What the devices together make of it. -/
def G' : sProp 𝕄 := iprop(∃ K, recs m ρ K ∗ positions c ∗ payToks c)

end

theorem fund_all : BI.own (ER (F := F) (initOf cellsF toksF)) ⊢ (|==> bigSep Finset.univ (G m ρ) : sProp 𝕄) := by
  have hX (Φ : GSem nD τ sig → sProp 𝕄) : bigSep cellsF Φ = bigSep Finset.univ fun c : Dev nD => bigSep Finset.univ fun k : CI => Φ (kcell (c, k)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => by unfold toks; rw [bigSep_univ_sum]; rfl
  iintro HX
  imod (Rounds.fund ER (Rd m ρ) cellsF toksF) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  iapply ((sep_mono_right ((sep_mono_right big_unsep).trans big_unsep)).trans big_unsep)
  isplitl [Hst]; · iexact Hst
  isplitl [Hat]; · iexact Hat
  isplitl [Hr]; · iexact Hr
  iexact Htok

/-! ## The invariants -/

/-- The kernel's own semaphores, one to a side of a transfer. -/
abbrev osem : XI → SemLoc sig := fun t => .dma (semIx t)

theorem ownSemFacts : Pipeline.OwnSemFacts cfg0.spec osem where
  isScoped := by decide
  inj := fun t t' h => semIx_inj t t' (SemLoc.dma.inj h)
  disj := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev osems (c : Dev nD) : sProp 𝕄 := Pipeline.ownSems0 (Ix := Unit) (Name := ℕ) (U := UU) (Lvl := ℕ) (Val := Elt F) (τ := τ) osem c

omit [FloatOps F] in
theorem osems_eq (c : Dev nD) : (osems c : sProp 𝕄) = bigSep Finset.univ fun t : XI => semVal (xCell c t) 0 := rfl

omit [FloatOps F] in
theorem sems_eq (c : Dev nD) : iprop(osems c ∗ unscopedSems0 c) ⊢ (bigSep Finset.univ fun k : CI => semVal (kcell (c, k)) 0 : sProp 𝕄) := by
  rw [big_option, osems_eq, unscopedSems0_eq]
  iintro ⟨H1, H2⟩
  isplitl [H2]; · iexact H2
  iexact H1

abbrev invs (c : Dev nD) : sProp 𝕄 := bigSep Finset.univ fun k : CI => iprop(∃ κ : ℕ, cellInv ER (Rd m ρ) κ (kcell (c, k)))

theorem invs_alloc (c : Dev nD) :
    iprop((bigSep Finset.univ fun k : CI => semVal (kcell (c, k)) 0) ∗ bigSep Finset.univ fun k : CI => roundState ER (Rd m ρ) (kcell (c, k)) 0)
      ⊢ (|={Set.univ}=> invs m ρ c : sProp 𝕄) :=
  (big_zip fun k => (Rounds.body_intro ER (Rd m ρ) (kcell (c, k))).trans inv_alloc).trans (bigSep_fupd _ _)

theorem core_alloc (c : Dev nD) : iprop(osems c ∗ unscopedSems0 c ∗ G m ρ c)
    ⊢ |={Set.univ}=> iprop(invs m ρ c ∗ positions c ∗ (bigSep Finset.univ fun k : CI => reached ER (kcell (c, k)) 0) ∗ toks c) := by
  unfold G
  iintro ⟨Hos, Hus, Hst, Hrest⟩
  ihave Hv := (sems_eq (F := F) c) $$ [Hos Hus]
  · isplitl [Hos] <;> iassumption
  imod (invs_alloc m ρ c) $$ [Hv Hst] with Hinv
  · isplitl [Hv]; · iexact Hv
    iexact Hst
  imodintro
  isplitl [Hinv]; · iexact Hinv
  iexact Hrest

/-- The tokens go to the devices that pay with them. -/
theorem toks_around : (bigSep Finset.univ fun c : Dev nD => (toks c : sProp 𝕄)) ⊢ bigSep Finset.univ fun c : Dev nD => payToks c := by
  have hsides (c : Dev nD) : (toks c : sProp 𝕄) ⊢ iprop((bigSep Finset.univ fun a : Fin 3 => dutyTok ER (barCell c) 0 a)
      ∗ (bigSep Finset.univ fun p : Fin 3 × Fin 10 => dutyTok ER (sendCell c p.1 p.2) 0 0)
      ∗ bigSep Finset.univ fun p : Fin 3 × Fin 10 => dutyTok ER (recvCell c p.1 p.2) 0 0) := by
    unfold toks
    exact sep_mono_right (Entails.of_eq (big_sides _))
  have h1 := deal (F := F) (fun c a => dutyTok ER (barCell c) 0 a) nbr nbr_nbr
  have h2 := deal (F := F) (fun c (p : Fin 3 × Fin 10) => dutyTok ER (recvCell c p.1 p.2) 0 0) (fun p c => peer p.1 p.2 c) fun p c => peer_peer p.1 p.2 c
  iintro H
  ihave H := ((big_map hsides).trans (big_sep.trans (sep_mono_right big_sep))) $$ H
  icases H with ⟨H1, H2, H3⟩
  ihave H1 := (Entails.of_eq h1) $$ H1
  ihave H3 := (Entails.of_eq h2) $$ H3
  unfold payToks
  iapply ((sep_mono_right big_unsep).trans big_unsep)
  isplitl [H1]; · iexact H1
  isplitl [H2]; · iexact H2
  iexact H3

omit [FloatOps F] in
theorem big_persistent {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans
    ((Entails.of_eq (bigSep_sep Finset.univ (fun _ => R) Φ).symm).trans (bigSep_mono fun i _ => h i))

theorem regroup :
    (bigSep Finset.univ fun c : Dev nD => iprop(invs m ρ c ∗ positions c ∗ (bigSep Finset.univ fun k : CI => reached ER (kcell (c, k)) 0) ∗ toks c) : sProp 𝕄)
      ⊢ bigSep Finset.univ (G' m ρ) := by
  iintro H
  ihave H := (big_sep.trans (sep_mono_right (big_sep.trans (sep_mono_right big_sep)))) $$ H
  icases H with ⟨HI, Hat, HR, Htok⟩
  ihave HI := (Entails.of_eq (bigSep_univ_prod (fun ck : Dev nD × CI => iprop(∃ κ : ℕ, cellInv ER (Rd m ρ) κ (kcell ck)))).symm) $$ HI
  ihave HR := (Entails.of_eq (bigSep_univ_prod (fun ck : Dev nD × CI => (reached ER (kcell ck) 0 : sProp 𝕄))).symm) $$ HR
  ihave HK := (BI.bigSep_exists_pi Finset.univ (fun (ck : Dev nD × CI) (κ : ℕ) => (cellInv ER (Rd m ρ) κ (kcell ck) : sProp 𝕄))) $$ HI
  icases HK with ⟨%K, HI⟩
  ihave Htk := (toks_around (F := F)) $$ Htok
  iapply (big_persistent (R := recs m ρ K) (Φ := fun c => iprop(positions c ∗ payToks c)) fun c => by
    unfold G'; iintro H; iexists K; iexact H)
  isplitl [HI HR]
  · unfold recs
    isplitl [HI]; · iexact HI
    iexact HR
  · iapply big_unsep
    isplitl [Hat]; · iexact Hat
    iexact Htk

/-- The set-up done by all devices at once. -/
theorem glob : (bigSep Finset.univ fun c => iprop(osems c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credit at launch -/

omit [FloatOps F] in
/-- What partner devices owe each other at one semaphore, each is credited. -/
theorem launch_one (c : Dev nD) (π : Dev nD → Dev nD) (hπ : ∀ d, π (π d) = d) (sm : SemLoc sig) (n : ℕ) :
    (Pipeline.launchCred (fun d => tallyAt ((π d : Thread nD τ), sm) () n) c : sProp 𝕄) ⊢ cred (tallyAt ((c : Thread nD τ), sm) () n) := by
  refine (Pipeline.launchCred_elim _ c sm).trans (Entails.of_eq (congrArg cred ?_))
  rw [tallyAt]
  refine congrArg _ (Finsupp.ext fun u => ?_)
  cases u
  rw [Pipeline.launchCredit_owing, Finsupp.single_eq_same, Fintype.sum_eq_single (π c)]
  · rw [hπ, tallyAt_apply, if_pos ⟨rfl, rfl⟩]
  · intro d hd
    rw [tallyAt_apply, if_neg]
    rintro ⟨h, -⟩
    have h' : c = π d := congrArg (fun g : GSem nD τ sig => g.1.1) h
    exact hd (by rw [h', hπ])

omit [FloatOps F] in
theorem launch_sum {I : Type} [DecidableEq I] (c : Dev nD) (f : I → Dev nD → CellTallies nD τ sig Unit) (s : Finset I) :
    (Pipeline.launchCred (fun d => ∑ i ∈ s, f i d) c : sProp 𝕄) ⊢ bigSep s fun i => Pipeline.launchCred (f i) c := by
  induction s using Finset.induction_on with
  | empty => rw [bigSep_empty]; iintro -; iempintro
  | insert i s hi ih =>
    rw [bigSep_insert hi]
    simp only [Finset.sum_insert hi]
    rw [Pipeline.launchCred_add]
    exact sep_mono_right ih

omit [FloatOps F] in
theorem creds (c : Dev nD) : (Pipeline.launchCred O₀ c : sProp 𝕄) ⊢ iprop(cred (tallyAt (barCell c) () 3)
    ∗ bigSep Finset.univ fun p : Fin 3 × Fin 10 => cred (tallyAt (recvCell c p.1 p.2) () (NN p.1 p.2))) := by
  have h0 : (O₀ : Dev nD → CellTallies nD τ sig Unit) = fun d =>
      (((∑ g : Fin 3, ∑ i : Fin 10, oweT d g i) + tallyAt (barCell (nbr 2 d)) () 1) + tallyAt (barCell (nbr 1 d)) () 1) + tallyAt (barCell (nbr 0 d)) () 1 := by
    funext d
    unfold O₀ O₂ O₁ owed oweG
    simp only [Nat.zero_le, if_true]
  rw [h0, Pipeline.launchCred_add, Pipeline.launchCred_add, Pipeline.launchCred_add]
  iintro ⟨⟨⟨Hx, H2⟩, H1⟩, H0⟩
  ihave H2 := (launch_one c (nbr 2) (nbr_nbr 2) (.reg barS) 1) $$ H2
  ihave H1 := (launch_one c (nbr 1) (nbr_nbr 1) (.reg barS) 1) $$ H1
  ihave H0 := (launch_one c (nbr 0) (nbr_nbr 0) (.reg barS) 1) $$ H0
  isplitl [H2 H1 H0]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H2]; · iexact H2
    iapply (cred_add _ _).2
    isplitl [H1]; · iexact H1
    iexact H0
  · have h : (Pipeline.launchCred (fun d => ∑ g : Fin 3, ∑ i : Fin 10, oweT d g i) c : sProp 𝕄)
        ⊢ bigSep Finset.univ fun p : Fin 3 × Fin 10 => cred (tallyAt (recvCell c p.1 p.2) () (NN p.1 p.2)) := by
      rw [bigSep_univ_prod]
      refine (launch_sum c (fun g d => ∑ i : Fin 10, oweT d g i) Finset.univ).trans (bigSep_mono fun g _ => ?_)
      refine (launch_sum c (fun i d => oweT d g i) Finset.univ).trans (bigSep_mono fun i _ => ?_)
      exact launch_one c (peer g i) (peer_peer g i) (.dma (recvQ g i)) (NN g i)
    iapply h; iexact Hx

/-! ## Waits on the staging copies -/

theorem lvS_stage (q : DmaSem sig) (hq : q.val < 5) : lvS (.dma q) = 0 := by
  unfold lvS
  have h : decode q = none := by
    unfold decode
    refine dif_neg ?_
    rintro ⟨t, rfl⟩
    have : 5 ≤ (semIx t).val := by unfold semIx; dsimp only; omega
    omega
  simp only [h]

theorem tally_pos {γ' γ : GSem nD τ sig} {n : ℕ} {u : Unit} (h : (tallyAt γ' () n : CellTallies nD τ sig Unit) γ u ≠ 0) : γ = γ' := by
  rw [tallyAt_apply] at h
  exact Classical.byContradiction fun hne => h (if_neg fun h' => hne h'.1)

theorem O₀_pos {c : Dev nD} {γ : GSem nD τ sig} {u : Unit} (h : 0 < O₀ c γ u) :
    (∃ a, γ = barCell (nbr a c)) ∨ ∃ g i, γ = recvCell (peer g i c) g i := by
  have he : O₀ c γ u = owed c (fun _ => 0) γ u + tallyAt (barCell (nbr 2 c)) () 1 γ u + tallyAt (barCell (nbr 1 c)) () 1 γ u
      + tallyAt (barCell (nbr 0 c)) () 1 γ u := by
    unfold O₀ O₂ O₁
    rw [Pi.add_apply, Finsupp.add_apply, Pi.add_apply, Finsupp.add_apply, Pi.add_apply, Finsupp.add_apply]
  by_cases h2 : tallyAt (barCell (nbr 2 c)) () 1 γ u = 0
  · by_cases h1 : tallyAt (barCell (nbr 1 c)) () 1 γ u = 0
    · by_cases h0 : tallyAt (barCell (nbr 0 c)) () 1 γ u = 0
      · have hp : 0 < owed c (fun _ => 0) γ u := by
          rw [he] at h
          generalize (owed c (fun _ => 0) γ) u = n at h ⊢
          generalize (tallyAt (barCell (nbr 2 c)) () 1 γ) u = n2 at h h2
          generalize (tallyAt (barCell (nbr 1 c)) () 1 γ) u = n1 at h h1
          generalize (tallyAt (barCell (nbr 0 c)) () 1 γ) u = n0 at h h0
          omega
        obtain ⟨g, i, hg⟩ := owed_pos hp
        exact Or.inr ⟨g, i, hg.2⟩
      · exact Or.inl ⟨0, tally_pos h0⟩
    · exact Or.inl ⟨1, tally_pos h1⟩
  · exact Or.inl ⟨2, tally_pos h2⟩

omit [FloatOps F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun γ u hg => by rcases O₀_pos hg with ⟨a, rfl⟩ | ⟨g, i, rfl⟩ <;> exact Finset.mem_singleton_self _)
      (fun p hp => by rw [Finset.mem_singleton.mp hp]; exact le_of_eq (lvS_stage q hq))
      (fun γ u hg => by
        rcases O₀_pos hg with ⟨a, rfl⟩ | ⟨g, i, rfl⟩
        · exact Nat.one_pos
        · rw [lv_recv]; omega)
  · rw [MayWait_zero]; iintro -; iempintro

end Cert.KernelIdeal.Run
-- ==== Proof.Launch.lean ====
/-
# The run

The kernel's body in the launch: every device runs to the end and leaves the computed result.
-/
module

public import Idealize.ShloMosaic.Lib.Pipeline.CollectiveSegs
public import proofs.«01_k».proof.Proof.Deal
public import proofs.«01_k».proof.Proof.Gen.KernelIdeal.Points

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the body is given and leaves -/

/-- What a device holds when its kernel begins, beside its buffers. -/
def start (c : Dev nD) : sProp 𝕄 :=
  iprop(G' m ρ c ∗ (cred (tallyAt (barCell c) () 3) ∗ bigSep Finset.univ fun p : Fin 3 × Fin 10 => cred (tallyAt (recvCell c p.1 p.2) () (NN p.1 p.2)))
    ∗ levAts L lv)

def Φ₀ (c : Dev nD) : sProp 𝕄 := iprop(start m ρ c ∗ Pipeline.scopedRest (Ix := Unit) (Name := ℕ) (U := UU) (Lvl := ℕ) (Val := Elt F) spec0 c)
def Φ₁ (c : Dev nD) : sProp 𝕄 :=
  iprop(unscopedSems0 c ∗ osems c ∗ Pipeline.scopedRest (Ix := Unit) (Name := ℕ) (U := UU) (Lvl := ℕ) (Val := Elt F) spec0 c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xC m ρ c
    | ⟨1, _⟩ => wC m ρ c
    | ⟨2, _⟩ => sxC m ρ c
    | ⟨3, _⟩ => swC m ρ c
    | ⟨4, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

section
variable (c : Dev nD) (K : Dev nD × CI → ℕ)

/-- Rows in hand, every transfer of a group is ready to be sent and received. -/
theorem grps_start :
    iprop((bigSep Finset.univ fun g : Fin 3 => Junk c (bufM g) 0 4096)
        ∗ (bigSep Finset.univ fun p : Fin 3 × Fin 10 => dutyTok ER (sendCell c p.1 p.2) 0 0)
        ∗ (bigSep Finset.univ fun p : Fin 3 × Fin 10 => dutyTok ER (recvCell (peer p.1 p.2 c) p.1 p.2) 0 0)
        ∗ (bigSep Finset.univ fun p : Fin 3 × Fin 10 => atPos ER (sendCell c p.1 p.2) 0 ∅ 0)
        ∗ (bigSep Finset.univ fun p : Fin 3 × Fin 10 => atPos ER (recvCell c p.1 p.2) 0 ∅ 0)
        ∗ (bigSep Finset.univ fun p : Fin 3 × Fin 10 => cred (tallyAt (recvCell c p.1 p.2) () (NN p.1 p.2))))
      ⊢ (bigSep Finset.univ fun g : Fin 3 => grp0 m ρ c g : sProp 𝕄) := by
  have hs : iprop((bigSep Finset.univ fun p : Fin 3 × Fin 10 => dutyTok ER (sendCell c p.1 p.2) 0 0)
        ∗ (bigSep Finset.univ fun p : Fin 3 × Fin 10 => dutyTok ER (recvCell (peer p.1 p.2 c) p.1 p.2) 0 0)
        ∗ (bigSep Finset.univ fun p : Fin 3 × Fin 10 => atPos ER (sendCell c p.1 p.2) 0 ∅ 0))
      ⊢ (bigSep Finset.univ fun g : Fin 3 => bigSep Finset.univ fun i : Fin 10 => iprop(dutyTok ER (sendCell c g i) 0 0 ∗ dutyTok ER (recvCell (peer g i c) g i) 0 0
        ∗ atPos ER (sendCell c g i) 0 ∅ 0) : sProp 𝕄) :=
    ((sep_mono_right big_unsep).trans big_unsep).trans (Entails.of_eq (bigSep_univ_prod fun p : Fin 3 × Fin 10 =>
      iprop(dutyTok ER (sendCell c p.1 p.2) 0 0 ∗ dutyTok ER (recvCell (peer p.1 p.2 c) p.1 p.2) 0 0 ∗ atPos ER (sendCell c p.1 p.2) 0 ∅ 0)))
  have hr : iprop((bigSep Finset.univ fun p : Fin 3 × Fin 10 => atPos ER (recvCell c p.1 p.2) 0 ∅ 0)
        ∗ (bigSep Finset.univ fun p : Fin 3 × Fin 10 => cred (tallyAt (recvCell c p.1 p.2) () (NN p.1 p.2))))
      ⊢ (bigSep Finset.univ fun g : Fin 3 => bigSep Finset.univ fun i : Fin 10 => recvSt m ρ c g i false : sProp 𝕄) :=
    big_unsep.trans (Entails.of_eq (bigSep_univ_prod fun p : Fin 3 × Fin 10 =>
      iprop(atPos ER (recvCell c p.1 p.2) 0 ∅ 0 ∗ cred (tallyAt (recvCell c p.1 p.2) () (NN p.1 p.2)))))
  iintro ⟨Hb, H1, H2, H3, H4, H5⟩
  ihave Hb := (big_map (fill_start c (m := m) (ρ := ρ))) $$ Hb
  ihave Hs := hs $$ [H1 H2 H3]
  · isplitl [H1]; · iexact H1
    isplitl [H2]; · iexact H2
    iexact H3
  ihave Hr := hr $$ [H4 H5]
  · isplitl [H4]; · iexact H4
    iexact H5
  unfold grp0
  iapply ((sep_mono_right big_unsep).trans big_unsep)
  isplitl [Hb]; · iexact Hb
  isplitl [Hs]; · iexact Hs
  iexact Hr

theorem positions_eq : (positions c : sProp 𝕄) ⊢ iprop(atPos ER (barCell c) 0 ∅ 0
    ∗ (bigSep Finset.univ fun p : Fin 3 × Fin 10 => atPos ER (sendCell c p.1 p.2) 0 ∅ 0)
    ∗ bigSep Finset.univ fun p : Fin 3 × Fin 10 => atPos ER (recvCell c p.1 p.2) 0 ∅ 0) :=
  (Entails.of_eq (big_option fun k => atPos ER (kcell (c, k)) 0 ∅ 0)).trans
    (sep_mono_right (Entails.of_eq (big_sides fun t => atPos ER (xCell c t) 0 ∅ 0)))

theorem lands_start : (bigSep Finset.univ fun g : Fin 3 => Junk c (rcvM g) 0 3584 : sProp 𝕄)
    ⊢ bigSep Finset.univ fun t : Fin 3 × Fin 10 => landJ c t.1 t.2 :=
  (big_map (land_split c)).trans (Entails.of_eq (bigSep_univ_prod fun t : Fin 3 × Fin 10 => landJ c t.1 t.2).symm)

theorem result_start (d : S512x2048.Idx → Elt F .f32) : stg c cc0_stg4_0 d ⊢ (Out m ρ c 0 : sProp 𝕄) := by
  unfold Out
  iintro ⟨%f, -, H⟩
  iexists f
  isplitr
  · ipureintro; intro x hx; exact absurd hx (Nat.not_lt_zero _)
  · iexact H

/-- From what the launch gives, the body begins. -/
theorem begin_intro (d : S512x2048.Idx → Elt F .f32) :
    iprop(Φ₀ m ρ c ∗ (∃ W, owes (c : Thread nD τ) (O₀ c) W) ∗ stg c cc0_stg0_0 (xC m ρ c) ∗ stg c cc0_stg1_0 (wC m ρ c)
        ∗ stg c cc0_stg2_0 (sxC m ρ c) ∗ stg c cc0_stg3_0 (swC m ρ c) ∗ stg c cc0_stg4_0 d)
      ⊢ (iprop(∃ K, Begin m ρ K c) : sProp 𝕄) := by
  unfold Φ₀ start G' payToks
  iintro ⟨⟨⟨⟨%K, Hrec, Hpos, Htb, Hts, Htr⟩, ⟨Hcb, Hcr⟩, Hlev⟩, Hbufs⟩, Ho, Hx, Hw, Hsx, Hsw, Hout⟩
  ihave Hbufs := (bufs_eq c).1 $$ Hbufs
  unfold bufs
  icases Hbufs with ⟨Hb, Hl⟩
  ihave Hpos := (positions_eq c) $$ Hpos
  icases Hpos with ⟨Hab, Has, Har⟩
  iexists K
  unfold Begin
  isplitl [Hrec]; · iexact Hrec
  isplitl [Hlev]; · iexact Hlev
  isplitl [Ho]; · iexact Ho
  isplitl [Hx Hw Hsx Hsw Hout]
  · isplitl [Hx]; · iexact Hx
    isplitl [Hw]; · iexact Hw
    isplitl [Hsx]; · iexact Hsx
    isplitl [Hsw]; · iexact Hsw
    iapply (result_start m ρ c d); iexact Hout
  isplitl [Htb]; · iexact Htb
  isplitl [Hab]; · iexact Hab
  isplitl [Hcb]; · iexact Hcb
  isplitl [Hl]; · iapply (lands_start c); iexact Hl
  iapply (grps_start m ρ c)
  isplitl [Hb]; · iexact Hb
  isplitl [Hts]; · iexact Hts
  isplitl [Htr]; · iexact Htr
  isplitl [Has]; · iexact Has
  isplitl [Har]; · iexact Har
  iexact Hcr

def post : sProp 𝕄 :=
  iprop(Φ₁ c ∗ (dats m ρ 0 c).owesAt () t0_0.succ
    ∗ stg c cc0_stg0_0 (xC m ρ c) ∗ stg c cc0_stg1_0 (wC m ρ c) ∗ stg c cc0_stg2_0 (sxC m ρ c) ∗ stg c cc0_stg3_0 (swC m ρ c)
    ∗ stg c cc0_stg4_0 (outC m ρ c))

/-- From the state the body ends in, what the launch takes back. -/
theorem end_post : iprop(St m ρ K c (out 10 10 10) ∗ semVal (barCell c) 0 ∗ emp) ⊢ (post m ρ c : sProp 𝕄) := by
  iintro ⟨Hst, Hbar, -⟩
  ihave H := (finish c (m := m) (ρ := ρ) (K := K)) $$ Hst
  icases H with ⟨⟨%W, Ho⟩, Hstg, Hs, Hb⟩
  unfold post Φ₁ Pipeline.Dat.owesAt Pipeline.owesWithin
  isplitl [Hbar Hs Hb]
  · isplitl [Hbar]; · rw [unscopedSems0_eq]; iexact Hbar
    isplitl [Hs]; · rw [osems_eq]; iexact Hs
    iapply (bufs_eq c).2; iexact Hb
  isplitl [Ho]
  · iexists W
    isplitr; · ipureintro; exact fun _ _ => Or.inl trivial
    iexact Ho
  iexact Hstg

end

/-- The library's obligation: the body, from what the launch gives to what it takes back. -/
theorem body_obligation (c : Dev nD) : Pipeline.BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 5) t0_0 d)) ∗ (∃ d, stg c cc0_stg1_0 ((dats m ρ 0 c).before (1 : Fin 5) t0_0 d))
      ∗ (∃ d, stg c cc0_stg2_0 ((dats m ρ 0 c).before (2 : Fin 5) t0_0 d)) ∗ (∃ d, stg c cc0_stg3_0 ((dats m ρ 0 c).before (3 : Fin 5) t0_0 d))
      ∗ (∃ d, stg c cc0_stg4_0 ((dats m ρ 0 c).before (4 : Fin 5) t0_0 d)))
    ⊢ wpc c (wh (cc0_body (F := F))) fun _ => post m ρ c
  have h0 (d) : (dats m ρ 0 c).before (0 : Fin 5) t0_0 d = xC m ρ c := by
    unfold Pipeline.Dat.before; rw [if_pos (fetch0_0 t0_0)]; rfl
  have h1 (d) : (dats m ρ 0 c).before (1 : Fin 5) t0_0 d = wC m ρ c := by
    unfold Pipeline.Dat.before; rw [if_pos (fetch0_1 t0_0)]; rfl
  have h2 (d) : (dats m ρ 0 c).before (2 : Fin 5) t0_0 d = sxC m ρ c := by
    unfold Pipeline.Dat.before; rw [if_pos (fetch0_2 t0_0)]; rfl
  have h3 (d) : (dats m ρ 0 c).before (3 : Fin 5) t0_0 d = swC m ρ c := by
    unfold Pipeline.Dat.before; rw [if_pos (fetch0_3 t0_0)]; rfl
  simp only [h0, h1, h2, h3]
  unfold Pipeline.Dat.owesAt Pipeline.owesWithin
  iintro ⟨HΦ, ⟨%W, -, Ho⟩, ⟨%d0, Hx⟩, ⟨%d1, Hw⟩, ⟨%d2, Hsx⟩, ⟨%d3, Hsw⟩, %d4, Hout⟩
  ihave HB := (begin_intro m ρ c ((dats m ρ 0 c).before (4 : Fin 5) t0_0 d4)) $$ [HΦ Ho Hx Hw Hsx Hsw Hout]
  · isplitl [HΦ]; · iexact HΦ
    isplitl [Ho]; · iexists W; iexact Ho
    isplitl [Hx]; · iexact Hx
    isplitl [Hw]; · iexact Hw
    isplitl [Hsx]; · iexact Hsx
    isplitl [Hsw]; · iexact Hsw
    iexact Hout
  icases HB with ⟨%K, HB⟩
  iapply (body c (m := m) (ρ := ρ) (K := K) (P := iprop(emp)) (end_post m ρ c K))
  isplitl [HB]; · iexact HB
  iempintro

/-! ## The launch -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) :=
  Entails.of_eq (show (dats m ρ 0 c).Φ (Fin.last cfg0.N) = Φ₁ c from rfl)

theorem stage_lt : ∀ (w : Fin 5) (s : Fin (spec0 w).nbuf), ((spec0 w).sem s).val < 5 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lt w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's inputs and result hold what the pipeline leaves there. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values and from any memory with every semaphore at zero, the program ends on every device, every
    semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run
-- ==== Proof.Arrays.lean ====
/-
# The arrays at the end of the run

The four arguments hold what they held; the result holds the partial sums added up, scaled and cut at zero.
-/
module

public import proofs.«01_k».proof.Proof.Launch

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The arguments are left as they were -/

theorem final_arg0 (c : Dev nD) : finalA m ρ c (0 : Fin 5) = m ((c : Thread nD τ).loc main_arg0) := (dats m ρ 0 c).arrAt_in (0 : Fin 5) rfl _
theorem final_arg1 (c : Dev nD) : finalA m ρ c (1 : Fin 5) = m ((c : Thread nD τ).loc main_arg1) := (dats m ρ 0 c).arrAt_in (1 : Fin 5) rfl _
theorem final_arg2 (c : Dev nD) : finalA m ρ c (2 : Fin 5) = m ((c : Thread nD τ).loc main_arg2) := (dats m ρ 0 c).arrAt_in (2 : Fin 5) rfl _
theorem final_arg3 (c : Dev nD) : finalA m ρ c (3 : Fin 5) = m ((c : Thread nD τ).loc main_arg3) := (dats m ρ 0 c).arrAt_in (3 : Fin 5) rfl _

/-! ## A window's one block is its whole array -/

theorem xC_eq (c : Dev nD) : xC m ρ c = m ((c : Thread nD τ).loc main_arg0) :=
  Memref.read_access_unit_zero (Elt F) main_arg0 (funext fun a => by fin_cases a <;> decide) (fun a => by fin_cases a <;> decide) _
theorem wC_eq (c : Dev nD) : wC m ρ c = m ((c : Thread nD τ).loc main_arg1) :=
  Memref.read_access_unit_zero (Elt F) main_arg1 (funext fun a => by fin_cases a <;> decide) (fun a => by fin_cases a <;> decide) _
theorem sxC_eq (c : Dev nD) : sxC m ρ c = m ((c : Thread nD τ).loc main_arg2) :=
  Memref.read_access_unit_zero (Elt F) main_arg2 (funext fun a => by fin_cases a <;> decide) (fun a => by fin_cases a <;> decide) _
theorem swC_eq (c : Dev nD) : swC m ρ c = m ((c : Thread nD τ).loc main_arg3) :=
  Memref.read_access_unit_zero (Elt F) main_arg3 (funext fun a => by fin_cases a <;> decide) (fun a => by fin_cases a <;> decide) _

/-- The one grid point. -/
def pt0 : Fin cfg0.N := ⟨0, by decide⟩

/-- The result array, read through its one block, is what the body left, cut to the block. -/
theorem final_block (c : Dev nD) :
    ((cfg0.win (4 : Fin 5)).blk pt0).view.read (Elt F) (finalA m ρ c (4 : Fin 5)) = (dats m ρ 0 c).flushed (4 : Fin 5) pt0 := by
  unfold finalA
  rw [show cfg0.N = (pt0 : Fin cfg0.N).val + 1 from rfl, (dats m ρ 0 c).arrAt_succ (4 : Fin 5) pt0]
  rw [show (cfg0.win (4 : Fin 5)).flush pt0 = true from by decide, if_pos rfl]
  exact View.read_write_univ _ _

/-- The result array ends at the result's contents. -/
theorem final_out (c : Dev nD) : finalA m ρ c (4 : Fin 5) = outC m ρ c := by
  have ho := final_block m ρ c
  have hr := fun f => Memref.read_access_unit_zero (Elt F) main_v1
    (off := fun a => (win0_4.index pt0) a * main_v1.ty.shape.size a) (funext fun a => by fin_cases a <;> decide) (fun a => by fin_cases a <;> decide) f
  rw [hr] at ho
  rw [ho]
  rfl

end Cert.KernelIdeal.Run
-- ==== Proof.Frames.lean ====
/-
# The frames

Each program runs to its end, leaves its arguments as they were, and every semaphore at zero.
-/
module

public import proofs.«01_k».proof.Defs
public import proofs.«01_k».proof.Proof.Gen.Kernel
public import proofs.«01_k».proof.Proof.Arrays
public import proofs.«01_k».proof.Proof.Gen.ReferenceIdeal.Run

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The run at any floats, with its values dropped. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (0 : Fin 5)).trans (final_arg0 m ρ c), (h.1 c (1 : Fin 5)).trans (final_arg1 m ρ c),
    (h.1 c (2 : Fin 5)).trans (final_arg2 m ρ c), (h.1 c (3 : Fin 5)).trans (final_arg3 m ρ c)⟩, h.2⟩) (run_main m ρ)

/-- The run at the ideal floats, with its values dropped. -/
theorem frame_ideal : Cert.quiescent_KernelIdeal := fun m ρ _ =>
  frame_any (F := Ideal) m ρ

/-- The reference runs its twelve operations and declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two programs have the same text: first the bodies, then the tables that hold them, then @main. -/
theorem body_same : Cert.Kernel.cc0_body (F := F) = Cert.KernelIdeal.cc0_body (F := F) := rfl
theorem table_same : Cert.Kernel.defs₀ (F := F) = Cert.KernelIdeal.defs₀ (F := F) :=
  congrArg Defs.onTc (funext fun ℓ => funext fun a => match ℓ, a with
    | 0, (t, s) => by
      show Cert.Kernel.cc0_body (F := F) _ _ _ _ _ _ _ _ _ _ _ _ _ _ _ _ _ _ _ _ _ _ _ _ = _
      rw [body_same]
    | ⟨_ + 1, h⟩, _ => absurd h (Nat.not_lt.2 (Nat.le_add_left _ _)))
theorem defs_same : Cert.Kernel.defs (F := F) = Cert.KernelIdeal.defs (F := F) := congrArg (Pipeline.defs _) table_same
theorem main_same : Cert.Kernel.main (F := F) = Cert.KernelIdeal.main (F := F) := rfl

/-- The same at the machine's floats. -/
theorem frame_kernel : Cert.quiescent_Kernel := fun m ρ _ => by
  rw [defs_same, main_same]
  exact frame_any (F := Bits) m ρ

end Cert.KernelIdeal.Run
-- ==== Proof.Product.lean ====
/-
# The product tiles over the reals

At the ideal numbers a tile is the exact integer product, and the partial sums are sums.
-/
module

public import Idealize.ShloMosaic.Lib.MatmulPlain
public import Idealize.ShloMosaic.Lib.IntMxu
public import proofs.«01_k».proof.Proof.Contents

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx
open scoped BigOperators

/-! ## Sums of integers as ideal numbers -/

/-- A sum of integers, term by term. -/
theorem coe_sum {n : ℕ} (f : Fin n → ℤ) : (∑ k, (((f k : ℤ) : ℝ) : EReal)) = (((∑ k, f k : ℤ) : ℝ) : EReal) := by
  induction n with
  | zero => simp
  | succ n ih => rw [Fin.sum_univ_succ, Fin.sum_univ_succ, ih]; push_cast; rfl

/-- A byte product of an `M × K` and a `K × N` matrix is the sum over the contracted coordinate. -/
theorem dotI8_plain {M K N : ℕ} (lhs : IVec ⟨2, ![M, K]⟩ 8) (rhs : IVec ⟨2, ![K, N]⟩ 8) (r : Fin M) (q : Fin N) :
    dotI8 (DotDims.plain M K N) lhs rhs (ix2 r q) = ∑ k : Fin K, (lhs (ix2 r k)).toInt * (rhs (ix2 k q)).toInt := by
  unfold dotI8
  rw [← Equiv.sum_comp (DotDims.plainContr M K N).symm]
  refine Finset.sum_congr rfl fun k _ => ?_
  have hk := contrEquiv1_symm_val _ K (DotDims.plain_contr_rank M K N) (DotDims.plain_contr_size M K N) k
  have el : (DotDims.plain M K N).lhsIdx (ix2 r q) ((DotDims.plainContr M K N).symm k) = ix2 r k := by
    funext a; apply Fin.ext
    match a with
    | ⟨0, _⟩ => rfl
    | ⟨1, _⟩ => exact hk
  have er : (DotDims.plain M K N).rhsIdx (ix2 r q) ((DotDims.plainContr M K N).symm k) = ix2 k q := by
    funext a; apply Fin.ext
    match a with
    | ⟨0, _⟩ => exact hk
    | ⟨1, _⟩ => rfl
  rw [el, er]

/-- The matrix unit's product of byte matrices with 512 contracted positions is exact. -/
theorem matmul_512 {N : ℕ} (lhs : IVec ⟨2, ![512, 512]⟩ 8) (rhs : IVec ⟨2, ![512, N]⟩ 8) (r : Fin 512) (q : Fin N) :
    (matmulI8 IntMxuNumerics.v7x (DotDims.plain 512 512 N) lhs rhs (fun _ => 0#32) (ix2 r q)).toInt
      = ∑ k : Fin 512, (lhs (ix2 r k)).toInt * (rhs (ix2 k q)).toInt := by
  rw [matmulI8_toInt IntMxuNumerics.v7x (DotDims.plain 512 512 N) lhs rhs _ _ rfl
    ((absDotI8_le_numel _ _ _ _).trans (show 512 * 1 * 2 ^ 14 ≤ 2 ^ 24 - 1 by decide)) (by decide)]
  exact dotI8_plain _ _ _ _

/-! ## A tile, a sum and a result at the ideal numbers -/

theorem tile_apply (g : Fin 3) (X : S512x512.Idx → Elt Ideal .i8) (W : (⟨2, ![512, Wd g]⟩ : Shape).Idx → Elt Ideal .i8) (r : Fin 512) (q : Fin (Wd g)) :
    tile (F := Ideal) g X W (ix2 r q)
      = (((∑ k : Fin 512, BitVec.toInt (n := 8) (X (ix2 r k)) * BitVec.toInt (n := 8) (W (ix2 k q)) : ℤ) : ℝ) : EReal) := by
  match g with
  | 0 =>
    show k0_pay6 (F := Ideal) X W (ix2 r q) = _
    unfold k0_pay6; simp only [shapeCast_self]
    exact congrArg (fun z : ℤ => ((z : ℝ) : EReal)) (matmul_512 X W r q)
  | 1 =>
    show k0_pay6 (F := Ideal) X W (ix2 r q) = _
    unfold k0_pay6; simp only [shapeCast_self]
    exact congrArg (fun z : ℤ => ((z : ℝ) : EReal)) (matmul_512 X W r q)
  | 2 =>
    show k0_pay1 (F := Ideal) X W (ix2 r q) = _
    unfold k0_pay1; simp only [shapeCast_self]
    exact congrArg (fun z : ℤ => ((z : ℝ) : EReal)) (matmul_512 X W r q)

/-- Over the reals the kernel's sum of two partial sums is their sum: no rounding. -/
theorem accS_apply (a b : EReal) : accS (F := Ideal) a b = a + b := by
  unfold accS k0_pay35; simp only [shapeCast_self]; rfl

theorem outS_apply (s a b : EReal) : outS (F := Ideal) s a b = max ((a + b) * s) (FloatOps.ofBits (F := Ideal) .f32 0x00000000#32) := rfl

end Cert.KernelIdeal.Run
-- ==== Proof.Total.lean ====
/-
# The sum over the devices

The three exchanges add the eight devices' products up, in an order that depends on the device.
-/
module

public import proofs.«01_k».proof.Proof.Product

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx
open scoped BigOperators

variable (m : (ℓ : Loc nD τ sig) → Buf (Elt Ideal) ℓ) (ρ : Dev nD → PrngReg)

theorem ixm_eq {R C : ℕ} {hR : 0 < R} {hC : 0 < C} (r q : ℕ) : ixm R C hR hC r q = ix2 ⟨r % R, Nat.mod_lt _ hR⟩ ⟨q % C, Nat.mod_lt _ hC⟩ := by
  funext a
  match a with
  | 0 => rfl
  | 1 => rfl

/-- The part of the exact product, at a row and a column of the whole, that device `c`'s 512 contracted positions make. -/
def dotC (c : Dev nD) (row col : ℕ) : ℤ :=
  ∑ k : Fin 512, BitVec.toInt (n := 8) (xC m ρ c (ixm 4096 512 (by decide) (by decide) row k.val))
    * BitVec.toInt (n := 8) (wC m ρ c (ixm 512 2048 (by decide) (by decide) k.val col))

/-- The row of the whole product that row `r` of group `g`'s buffer holds, and the column. -/
def rowOf (g : Fin 3) (r : ℕ) : ℕ := 512 * chunk g (r / 512) + r % 512

theorem B0_apply (g : Fin 3) (c : Dev nD) (r q : ℕ) (hq : q < Wd g) :
    B0 m ρ g c r q = (((dotC m ρ c (rowOf g r) (c0 g + q) : ℤ) : ℝ) : EReal) := by
  unfold B0
  rw [ixm_eq, tile_apply]
  unfold dotC
  have hq' : q % Wd g = q := Nat.mod_eq_of_lt hq
  have e : ∀ k : Fin 512, BitVec.toInt (n := 8) (xRows m ρ c g (r / 512) (ix2 ⟨r % 512, Nat.mod_lt _ (by decide)⟩ k))
      * BitVec.toInt (n := 8) (wCols m ρ c g (ix2 k ⟨q % Wd g, Nat.mod_lt _ (Wd_pos g)⟩))
      = BitVec.toInt (n := 8) (xC m ρ c (ixm 4096 512 (by decide) (by decide) (rowOf g r) k.val))
        * BitVec.toInt (n := 8) (wC m ρ c (ixm 512 2048 (by decide) (by decide) k.val (c0 g + q))) := fun k => by
    have hw : wCols m ρ c g (ix2 k ⟨q % Wd g, Nat.mod_lt _ (Wd_pos g)⟩) = wC m ρ c (ixm 512 2048 (by decide) (by decide) k.val (c0 g + q)) := by
      unfold wCols
      show wC m ρ c (ixm 512 2048 _ _ k.val (c0 g + q % Wd g)) = _
      rw [hq']
    rw [hw]
    rfl
  rw [Finset.sum_congr rfl fun k _ => e k]

theorem coe_add_int (a b : ℤ) : (((a : ℤ) : ℝ) : EReal) + (((b : ℤ) : ℝ) : EReal) = (((a + b : ℤ) : ℝ) : EReal) := by
  push_cast; rfl

theorem B1_apply (g : Fin 3) (c : Dev nD) (r q : ℕ) (hq : q < Wd g) :
    B1 m ρ g c r q = (((dotC m ρ c (rowOf g r) (c0 g + q) + dotC m ρ (nbr (ord g 0) c) (rowOf g r) (c0 g + q) : ℤ) : ℝ) : EReal) := by
  unfold B1
  rw [B0_apply m ρ g c r q hq, B0_apply m ρ g _ r q hq]
  exact (accS_apply _ _).trans (coe_add_int _ _)

theorem B2_apply (g : Fin 3) (c : Dev nD) (r q : ℕ) (hq : q < Wd g) :
    B2 m ρ g c r q = ((((dotC m ρ c (rowOf g r) (c0 g + q) + dotC m ρ (nbr (ord g 0) c) (rowOf g r) (c0 g + q))
      + (dotC m ρ (nbr (ord g 1) c) (rowOf g r) (c0 g + q) + dotC m ρ (nbr (ord g 0) (nbr (ord g 1) c)) (rowOf g r) (c0 g + q)) : ℤ) : ℝ) : EReal) := by
  unfold B2
  rw [B1_apply m ρ g c r q hq, B1_apply m ρ g _ r q hq]
  exact (accS_apply _ _).trans (coe_add_int _ _)

/-! ## All eight devices -/

/-- The eight devices, in the order in which group `g` on device `c` adds them up. -/
def order (g : Fin 3) (c : Dev nD) : List (Fin 8) :=
  [c, nbr (ord g 0) c, nbr (ord g 1) c, nbr (ord g 0) (nbr (ord g 1) c),
    nbr (ord g 2) c, nbr (ord g 0) (nbr (ord g 2) c), nbr (ord g 1) (nbr (ord g 2) c), nbr (ord g 0) (nbr (ord g 1) (nbr (ord g 2) c))]

theorem order_all (g : Fin 3) (c : Dev nD) : ((order g c : List (Fin 8)) : Multiset (Fin 8)) = Finset.univ.val := by
  revert g c; decide +kernel

theorem sum_order (g : Fin 3) (c : Dev nD) (f : Fin 8 → ℤ) : ((order g c).map f).sum = ∑ d, f d := by
  show _ = (Finset.univ.val.map f).sum
  rw [← order_all g c]
  simp

theorem own_chunk (g : Fin 3) (c : Dev nD) : chunk g (own g 2 c / 512) = c.val := by revert g c; decide +kernel
theorem own_mod (g : Fin 3) (c : Dev nD) : own g 2 c % 512 = 0 := by revert g c; decide +kernel

/-- What group `g` on device `c` keeps to the end is the rows of device `c`'s block of the result. -/
theorem rowOf_own (g : Fin 3) (c : Dev nD) (r : ℕ) (hr : r < 512) : rowOf g (own g 2 c + r) = 512 * c.val + r := by
  have h := own_mod g c
  unfold rowOf
  rw [show (own g 2 c + r) / 512 = own g 2 c / 512 by omega, own_chunk g c]
  omega

theorem grp_lt (q : ℕ) (hq : q < 2048) : c0 (grpOf q) ≤ q ∧ q - c0 (grpOf q) < Wd (grpOf q) := by
  unfold grpOf
  split
  · exact ⟨Nat.zero_le _, by show q - 0 < 640; omega⟩
  · split
    · exact ⟨by show 640 ≤ q; omega, by show q - 640 < 640; omega⟩
    · exact ⟨by show 1280 ≤ q; omega, by show q - 1280 < 768; omega⟩

theorem scale_apply (c : Dev nD) : scale m ρ c = FloatOps.mulf (F := Ideal) (φ := .f32) (sxC m ρ c i1) (swC m ρ c i1) := rfl

/-- The result of device `c`: the whole product's rows of its block, scaled and cut at zero. -/
theorem outV_apply (c : Dev nD) (r q : ℕ) (hr : r < 512) (hq : q < 2048) :
    outV m ρ c r q = (max ((((∑ d : Fin 8, dotC m ρ d (512 * c.val + r) q : ℤ) : ℝ) : EReal) * (scale m ρ c : EReal))
      (FloatOps.ofBits (F := Ideal) .f32 0x00000000#32) : EReal) := by
  obtain ⟨h1, h2⟩ := grp_lt q hq
  unfold outV
  refine (outS_apply _ _ _).trans ?_
  rw [B2_apply m ρ _ c _ _ h2, B2_apply m ρ _ _ _ _ h2, rowOf_own _ _ _ hr, Nat.add_sub_cancel' h1]
  rw [coe_add_int, ← sum_order (grpOf q) c]
  congr 3
  simp only [order, List.map_cons, List.map_nil, List.sum_cons, List.sum_nil]
  congr 1
  ring

end Cert.KernelIdeal.Run
-- ==== Proof.Value.lean ====
/-
# The value claim

The kernel's result on each device is its block of the reference's result, over the reals.
-/
module

public import proofs.«01_k».proof.Defs
public import Idealize.ShloMosaic.Lib.Layout
public import Idealize.ShloMosaic.Lib.StackMember
public import proofs.«01_k».proof.Proof.Arrays
public import proofs.«01_k».proof.Proof.Total
public import proofs.«01_k».proof.Proof.Gen.ReferenceIdeal.Run

@[expose] public section

set_option maxRecDepth 16384

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx
open scoped BigOperators

/-! ## The reference's value at an index -/

/-- What the reference leaves: the whole product in floats, scaled and cut at zero. -/
def refOut (X : Cert.ReferenceIdeal.S4096x4096.Idx → Elt Ideal .i8) (W : Cert.ReferenceIdeal.S4096x2048.Idx → Elt Ideal .i8) (sx sw : S1.Idx → Elt Ideal .f32) : Cert.ReferenceIdeal.S4096x2048.Idx → Elt Ideal .f32 :=
  maximumf (F := Ideal) (φ := .f32) (mulf (F := Ideal) (φ := .f32) (Host.dotGeneral Cert.ReferenceIdeal.dot_S4096x4096_S4096x2048_S4096x2048_1_0_0_1_n_n none
      (sitofp .f32 (extsi 32 X Cert.ReferenceIdeal.Facts₀.natLt_8_32)) (sitofp .f32 (extsi 32 W Cert.ReferenceIdeal.Facts₀.natLt_8_32)))
    (broadcastInDim Cert.ReferenceIdeal.S4096x2048 ![0, 1] Cert.ReferenceIdeal.Facts₀.bcast_S1x1_S4096x2048_0_1 (broadcastInDim Cert.ReferenceIdeal.S1x1 ![1] Cert.ReferenceIdeal.Facts₀.bcast_S1_S1x1_1 (mulf (F := Ideal) (φ := .f32) sx sw))))
    (broadcastInDim Cert.ReferenceIdeal.S4096x2048 ![] Cert.ReferenceIdeal.Facts₀.bcast_S_S4096x2048 (constant (F := Ideal) Cert.ReferenceIdeal.S_ .f32 0x00000000#32))

/-- One product of the whole contraction, at a row, a column and a contracted position. -/
def term (X : Cert.ReferenceIdeal.S4096x4096.Idx → Elt Ideal .i8) (W : Cert.ReferenceIdeal.S4096x2048.Idx → Elt Ideal .i8) (row col K : ℕ) : ℤ :=
  BitVec.toInt (n := 8) (X (ixm 4096 4096 (by decide) (by decide) row K)) * BitVec.toInt (n := 8) (W (ixm 4096 2048 (by decide) (by decide) K col))

theorem toInt_wide (b : BitVec 8) : (b.signExtend 32).toInt = b.toInt := BitVec.toInt_signExtend_of_le (by decide)

theorem ix2_ixm {R C : ℕ} {hR : 0 < R} {hC : 0 < C} (r : Fin R) (q : Fin C) : (ix2 r q : (⟨2, ![R, C]⟩ : Shape).Idx) = ixm R C hR hC r.val q.val := by
  funext a
  match a with
  | 0 => exact Fin.ext (Nat.mod_eq_of_lt r.isLt).symm
  | 1 => exact Fin.ext (Nat.mod_eq_of_lt q.isLt).symm

/-- The whole product, in floats, is the exact integer product. -/
theorem dot_apply (X : Cert.ReferenceIdeal.S4096x4096.Idx → Elt Ideal .i8) (W : Cert.ReferenceIdeal.S4096x2048.Idx → Elt Ideal .i8) (r : Fin 4096) (q : Fin 2048) :
    Host.dotGeneral (F := Ideal) Cert.ReferenceIdeal.dot_S4096x4096_S4096x2048_S4096x2048_1_0_0_1_n_n none
      (sitofp .f32 (extsi 32 X Cert.ReferenceIdeal.Facts₀.natLt_8_32)) (sitofp .f32 (extsi 32 W Cert.ReferenceIdeal.Facts₀.natLt_8_32)) (ix2 r q)
      = (((∑ K : Fin 4096, term X W r.val q.val K.val : ℤ) : ℝ) : EReal) := by
  refine (StackMember.dotGeneral_plain_apply (m := 4096) (k := 4096) (n := 2048) (φ₁ := .f32) (φ₂ := .f32) none _ _ r q).trans ?_
  rw [← coe_sum]
  refine Finset.sum_congr rfl fun K _ => ?_
  unfold term
  rw [← ix2_ixm r K, ← ix2_ixm K q, ← toInt_wide, ← toInt_wide]
  push_cast
  rfl

theorem refOut_apply (X : Cert.ReferenceIdeal.S4096x4096.Idx → Elt Ideal .i8) (W : Cert.ReferenceIdeal.S4096x2048.Idx → Elt Ideal .i8) (sx sw : S1.Idx → Elt Ideal .f32) (r : Fin 4096) (q : Fin 2048) :
    refOut X W sx sw (ix2 r q) = (max ((((∑ K : Fin 4096, term X W r.val q.val K.val : ℤ) : ℝ) : EReal)
      * (FloatOps.mulf (F := Ideal) (φ := .f32) (sx i1) (sw i1) : EReal)) (FloatOps.ofBits (F := Ideal) .f32 0x00000000#32) : EReal) := by
  rw [← dot_apply]
  have hb : (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf (F := Ideal) (φ := .f32) sx sw))) (ix2 r q)
      = FloatOps.mulf (F := Ideal) (φ := .f32) (sx i1) (sw i1) := by
    have h1 : ∀ i : S1.Idx, i = i1 := fun i => by
      funext a
      match a with
      | 0 => exact Subsingleton.elim (α := Fin 1) _ _
    have h2 : ∀ i : S1.Idx, mulf (F := Ideal) (φ := .f32) sx sw i = FloatOps.mulf (F := Ideal) (φ := .f32) (sx i1) (sw i1) := fun i => by rw [h1 i]; rfl
    exact h2 _
  rw [← hb]
  rfl

/-- A sum over blocks of positions, block by block. -/
theorem sum_blocks (a b : ℕ) (f : ℕ → ℤ) : ∑ K : Fin (a * b), f K.val = ∑ d : Fin a, ∑ k : Fin b, f (b * d.val + k.val) := by
  rw [← Fintype.sum_prod_type' (f := fun (d : Fin a) (k : Fin b) => f (b * d.val + k.val)), ← Equiv.sum_comp finProdFinEquiv]
  refine Finset.sum_congr rfl fun p _ => ?_
  show f (p.2.val + b * p.1.val) = _
  rw [Nat.add_comm]

/-- The 4096 contracted positions, device by device. -/
theorem sum_split (f : ℕ → ℤ) : ∑ K : Fin 4096, f K.val = ∑ d : Fin 8, ∑ k : Fin 512, f (512 * d.val + k.val) :=
  sum_blocks 8 512 f

/-! ## The kernel's result is the reference's block -/

variable (m : (ℓ : Loc nD τ sig) → Buf (Elt Ideal) ℓ) (ρ : Dev nD → PrngReg)

theorem dotC_block (X : Cert.ReferenceIdeal.S4096x4096.Idx → Elt Ideal .i8) (W : Cert.ReferenceIdeal.S4096x2048.Idx → Elt Ideal .i8) (d : Dev nD)
    (hx : xC m ρ d = Layout.block ⟨2, ![4096, 512]⟩ ⟨2, ![4096, 4096]⟩ 1 8 d X)
    (hw : wC m ρ d = Layout.block ⟨2, ![512, 2048]⟩ ⟨2, ![4096, 2048]⟩ 0 8 d W) (row col : ℕ) :
    dotC m ρ d row col = ∑ k : Fin 512, term X W row col (512 * d.val + k.val) := by
  unfold dotC
  rw [hx, hw]
  refine Finset.sum_congr rfl fun k _ => ?_
  have hd : d.val < 8 := d.isLt
  have hk := k.isLt
  unfold term
  rw [Layout.block_apply, Layout.block_apply]
  congr 3
  · funext a
    match a with
    | 0 => exact Fin.ext rfl
    | 1 => exact Fin.ext (show d.val * 512 + k.val % 512 = (512 * d.val + k.val) % 4096 by omega)
  · congr 1
    funext a
    match a with
    | 0 => exact Fin.ext (show d.val * 512 + k.val % 512 = (512 * d.val + k.val) % 4096 by omega)
    | 1 => exact Fin.ext rfl

theorem out_block (X : Cert.ReferenceIdeal.S4096x4096.Idx → Elt Ideal .i8) (W : Cert.ReferenceIdeal.S4096x2048.Idx → Elt Ideal .i8) (sx sw : S1.Idx → Elt Ideal .f32)
    (hx : ∀ d : Dev nD, xC m ρ d = Layout.block ⟨2, ![4096, 512]⟩ ⟨2, ![4096, 4096]⟩ 1 8 d X)
    (hw : ∀ d : Dev nD, wC m ρ d = Layout.block ⟨2, ![512, 2048]⟩ ⟨2, ![4096, 2048]⟩ 0 8 d W)
    (hsx : ∀ d : Dev nD, sxC m ρ d = sx) (hsw : ∀ d : Dev nD, swC m ρ d = sw) (c : Dev nD) :
    outC m ρ c = Layout.block ⟨2, ![512, 2048]⟩ ⟨2, ![4096, 2048]⟩ 0 8 c (refOut X W sx sw) := by
  funext j
  have hc : c.val < 8 := c.isLt
  have h0 : (j 0).val < 512 := (j 0).isLt
  have h1 : (j 1).val < 2048 := (j 1).isLt
  have hi : (show Layout.Tiles ⟨2, ![512, 2048]⟩ ⟨2, ![4096, 2048]⟩ 0 8 by decide).idx c j
      = (ix2 (⟨512 * c.val + (j 0).val, by omega⟩ : Fin 4096) (⟨(j 1).val, h1⟩ : Fin 2048) : Cert.ReferenceIdeal.S4096x2048.Idx) := by
    funext a
    match a with
    | 0 => exact Fin.ext (show c.val * 512 + (j 0).val = 512 * c.val + (j 0).val by omega)
    | 1 => exact Fin.ext rfl
  rw [Layout.block_apply, hi, refOut_apply]
  show outV m ρ c (j 0).val (j 1).val = _
  rw [outV_apply m ρ c _ _ h0 h1, scale_apply, hsx, hsw, sum_split]
  rw [Finset.sum_congr rfl fun d _ => dotC_block m ρ X W d (hx d) (hw d) _ _]

/-- Over the reals, every device's result is its block of the reference's result. -/
theorem value_claim : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun _ h c => ⟨((h.1 c (4 : Fin 5)).trans (final_out m ρ c)).trans ?_,
      (h.1 c (0 : Fin 5)).trans (final_arg0 m ρ c), (h.1 c (1 : Fin 5)).trans (final_arg1 m ρ c),
      (h.1 c (2 : Fin 5)).trans (final_arg2 m ρ c), (h.1 c (3 : Fin 5)).trans (final_arg3 m ρ c)⟩) (run_main (F := Ideal) m ρ)
    exact out_block m ρ _ _ _ _ (fun d => (xC_eq m ρ d).trans (hagree d).1) (fun d => (wC_eq m ρ d).trans (hagree d).2.1)
      (fun d => (sxC_eq m ρ d).trans (hagree d).2.2.1) (fun d => (swC_eq m ρ d).trans (hagree d).2.2.2) c
  · exact (θ_run Cert.ReferenceIdeal.defs _ _).mono (fun _ h => ⟨(h 0).1, (h 0).2.1, (h 0).2.2.1, (h 0).2.2.2.1, (h 0).2.2.2.2⟩)
      (Cert.ReferenceIdeal.Value.run (F := Ideal) m' ρ')

end Cert.KernelIdeal.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the idealization that changed nothing, and the value claim. -/
theorem claim : Cert.Claim := ⟨Cert.Kernel.Gen.facts, Cert.KernelIdeal.Gen.facts, Cert.ReferenceIdeal.Gen.facts,
  Cert.KernelIdeal.Run.frame_kernel, Cert.KernelIdeal.Run.frame_ideal, Cert.KernelIdeal.Run.frame_reference,
  trivial, Cert.KernelIdeal.Run.value_claim⟩

end Cert.Proof

end
